-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 384]⟩ ⟨2, ![3072, 384]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S3072x768 : Shape := ⟨2, ![3072, 768]⟩
abbrev S4x768x384 : Shape := ⟨3, ![4, 768, 384]⟩
abbrev S3 : Shape := ⟨1, ![3]⟩
abbrev S_ : Shape := ⟨0, ![]⟩
abbrev S1x768x384 : Shape := ⟨3, ![1, 768, 384]⟩
abbrev S1 : Shape := ⟨1, ![1]⟩
abbrev S768x768 : Shape := ⟨2, ![768, 768]⟩

abbrev nBuf : Space → Nat
  | .hbm => 3
  | .vmem => 4
  | .smem => 0
  | _ => 0

abbrev bufTy : (tb : Table) → Fin (tcTables nBuf tb) → BufTy
  | .hbm, ⟨0, _⟩ => ⟨S768x384, .f32⟩
  | .hbm, ⟨1, _⟩ => ⟨S384x768, .f32⟩
  | .hbm, ⟨2, _⟩ => ⟨S3072x768, .f32⟩
  | .local _ .vmem, ⟨0, _⟩ => ⟨S768x384, .f32⟩
  | .local _ .vmem, ⟨1, _⟩ => ⟨S384x768, .f32⟩
  | .local _ .vmem, ⟨2, _⟩ => ⟨S3072x768, .f32⟩
  | .local _ .vmem, ⟨3, _⟩ => ⟨S4x768x384, .bf16⟩
  | _, _ => ⟨S768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v46 : Index := Scalar.indexCast v2
  let c0_29 : Index := 0#32
  let c0_30 : Index := 0#32
  ![v46.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_44 : BitVec 32 := 0#32
  let c0_i32_45 : BitVec 32 := 0#32
  ![v2.toNat, 0, 0]
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_33 : BitVec 32 := 1#32
  let v53 : BitVec 32 := Scalar.addi v2 c1_i32_33
  let c4_i32_34 : BitVec 32 := 4#32
  let c0_i32_35 : BitVec 32 := 0#32
  let v54 : BitVec 1 := Scalar.cmpi .eq c4_i32_34 c0_i32_35
  let c1_i32_36 : BitVec 32 := 1#32
  let v55 : BitVec 32 := Scalar.select v54 c1_i32_36 c4_i32_34
  let v56 : BitVec 32 := Scalar.remsi v53 v55
  let c0_i32_38 : BitVec 32 := 0#32
  let v58 : BitVec 1 := Scalar.cmpi .slt v56 c0_i32_38
  let c0_i32_39 : BitVec 32 := 0#32
  let v59 : BitVec 1 := Scalar.cmpi .slt v55 c0_i32_39
  let v60 : BitVec 1 := Scalar.xori v58 v59
  let c0_i32_37 : BitVec 32 := 0#32
  let v57 : BitVec 1 := Scalar.cmpi .ne v56 c0_i32_37
  let v61 : BitVec 1 := Scalar.andi v60 v57
  let v62 : BitVec 32 := Scalar.addi v56 v55
  let v63 : BitVec 32 := Scalar.select v61 v62 v56
  let c1_i32_42 : BitVec 32 := 1#32
  let v64 : BitVec 32 := Scalar.muli v63 c1_i32_42
  let v65 : BitVec 32 := Scalar.addi c0_i32_43 v64
  v65.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_48 : BitVec 32 := 2#32
  let v74 : BitVec 32 := Scalar.addi v2 c2_i32_48
  let c4_i32_49 : BitVec 32 := 4#32
  let c0_i32_50 : BitVec 32 := 0#32
  let v75 : BitVec 1 := Scalar.cmpi .eq c4_i32_49 c0_i32_50
  let c1_i32_51 : BitVec 32 := 1#32
  let v76 : BitVec 32 := Scalar.select v75 c1_i32_51 c4_i32_49
  let v77 : BitVec 32 := Scalar.remsi v74 v76
  let c0_i32_53 : BitVec 32 := 0#32
  let v79 : BitVec 1 := Scalar.cmpi .slt v77 c0_i32_53
  let c0_i32_54 : BitVec 32 := 0#32
  let v80 : BitVec 1 := Scalar.cmpi .slt v76 c0_i32_54
  let v81 : BitVec 1 := Scalar.xori v79 v80
  let c0_i32_52 : BitVec 32 := 0#32
  let v78 : BitVec 1 := Scalar.cmpi .ne v77 c0_i32_52
  let v82 : BitVec 1 := Scalar.andi v81 v78
  let v83 : BitVec 32 := Scalar.addi v77 v76
  let v84 : BitVec 32 := Scalar.select v82 v83 v77
  let c1_i32_57 : BitVec 32 := 1#32
  let v85 : BitVec 32 := Scalar.muli v84 c1_i32_57
  let v86 : BitVec 32 := Scalar.addi c0_i32_58 v85
  v86.toNat
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_63 : BitVec 32 := 3#32
  let v95 : BitVec 32 := Scalar.addi v2 c3_i32_63
  let c4_i32_64 : BitVec 32 := 4#32
  let c0_i32_65 : BitVec 32 := 0#32
  let v96 : BitVec 1 := Scalar.cmpi .eq c4_i32_64 c0_i32_65
  let c1_i32_66 : BitVec 32 := 1#32
  let v97 : BitVec 32 := Scalar.select v96 c1_i32_66 c4_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let c1_i32_72 : BitVec 32 := 1#32
  let v106 : BitVec 32 := Scalar.muli v105 c1_i32_72
  let v107 : BitVec 32 := Scalar.addi c0_i32_73 v106
  v107.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32 : BitVec 32 := 768#32
  let v120 : BitVec 32 := Scalar.muli v2 c768_i32
  let v121 : Index := Scalar.indexCast v120
  let c0_80 : Index := 0#32
  ![v121.toNat, 0]
def k0_off4 (d0 : Dev nD) (c1_i32_96 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v142 : BitVec 32 := Scalar.subi v2 c1_i32_96
  let c4_i32_97 : BitVec 32 := 4#32
  let c0_i32_98 : BitVec 32 := 0#32
  let v143 : BitVec 1 := Scalar.cmpi .eq c4_i32_97 c0_i32_98
  let c1_i32_99 : BitVec 32 := 1#32
  let v144 : BitVec 32 := Scalar.select v143 c1_i32_99 c4_i32_97
  let v145 : BitVec 32 := Scalar.remsi v142 v144
  let c0_i32_101 : BitVec 32 := 0#32
  let v147 : BitVec 1 := Scalar.cmpi .slt v145 c0_i32_101
  let c0_i32_102 : BitVec 32 := 0#32
  let v148 : BitVec 1 := Scalar.cmpi .slt v144 c0_i32_102
  let v149 : BitVec 1 := Scalar.xori v147 v148
  let c0_i32_100 : BitVec 32 := 0#32
  let v146 : BitVec 1 := Scalar.cmpi .ne v145 c0_i32_100
  let v150 : BitVec 1 := Scalar.andi v149 v146
  let v151 : BitVec 32 := Scalar.addi v145 v144
  let v152 : BitVec 32 := Scalar.select v150 v151 v145
  let v153 : Index := Scalar.indexCast v152
  let c0_103 : Index := 0#32
  let c0_104 : Index := 0#32
  ![v153.toNat, 0, 0]
def k0_off5 (d0 : Dev nD) (c1_i32_89 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v131 : BitVec 32 := Scalar.subi v2 c1_i32_89
  let c4_i32_90 : BitVec 32 := 4#32
  let c0_i32_91 : BitVec 32 := 0#32
  let v132 : BitVec 1 := Scalar.cmpi .eq c4_i32_90 c0_i32_91
  let c1_i32_92 : BitVec 32 := 1#32
  let v133 : BitVec 32 := Scalar.select v132 c1_i32_92 c4_i32_90
  let v134 : BitVec 32 := Scalar.remsi v131 v133
  let c0_i32_94 : BitVec 32 := 0#32
  let v136 : BitVec 1 := Scalar.cmpi .slt v134 c0_i32_94
  let c0_i32_95 : BitVec 32 := 0#32
  let v137 : BitVec 1 := Scalar.cmpi .slt v133 c0_i32_95
  let v138 : BitVec 1 := Scalar.xori v136 v137
  let c0_i32_93 : BitVec 32 := 0#32
  let v135 : BitVec 1 := Scalar.cmpi .ne v134 c0_i32_93
  let v139 : BitVec 1 := Scalar.andi v138 v135
  let v140 : BitVec 32 := Scalar.addi v134 v133
  let v141 : BitVec 32 := Scalar.select v139 v140 v134
  let c768_i32_106 : BitVec 32 := 768#32
  let v157 : BitVec 32 := Scalar.muli v141 c768_i32_106
  let v158 : Index := Scalar.indexCast v157
  let c0_107 : Index := 0#32
  ![v158.toNat, 0]
abbrev stage0_0 : Fin 1 → Memref sig .tc .vmem S768x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S3072x384 : Shape := ⟨2, ![3072, 384]⟩
abbrev S384x768 : Shape := ⟨2, ![384, 768]⟩
abbrev S3072x768 : Shape := ⟨2, ![3072, 768]⟩

abbrev nBuf : Space → Nat
  | .hbm => 3
  | .vmem => 0
  | .smem => 0
  | _ => 0

abbrev bufTy : (tb : Table) → Fin (tcTables nBuf tb) → BufTy
  | .hbm, ⟨0, _⟩ => ⟨S3072x384, .f32⟩
  | .hbm, ⟨1, _⟩ => ⟨S384x768, .f32⟩
  | .hbm, ⟨2, _⟩ => ⟨S3072x768, .f32⟩
  | _, _ => ⟨S3072x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Cells.lean ====
/-
  The bf16 gather's geometry and contents: the devices the kernel addresses, the four slots of the
  gathered operand, the four row blocks of the result, and what the run leaves in each.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The devices -/

/-- The device `d + 1` places after `c`: where copy `d` of `c` goes. -/
def ahead (c : Dev nD) (d : Fin 3) : Dev nD := ⟨(c.val + (d.val + 1)) % 4, Nat.mod_lt _ (by decide)⟩
/-- The device `d + 1` places before `c`: where copy `d` into `c` comes from. -/
def behind (c : Dev nD) (d : Fin 3) : Dev nD := ⟨(c.val + (3 - d.val)) % 4, Nat.mod_lt _ (by decide)⟩
/-- The number of places the other way round. -/
def flip (d : Fin 3) : Fin 3 := ⟨2 - d.val, by omega⟩

theorem behind_ahead : ∀ (c : Dev nD) (d : Fin 3), behind (ahead c d) d = c := by decide
theorem ahead_behind : ∀ (c : Dev nD) (d : Fin 3), ahead (behind c d) d = c := by decide
theorem ahead_flip : ∀ (c : Dev nD) (d : Fin 3), ahead c (flip d) = behind c d := by decide
theorem behind_flip : ∀ (c : Dev nD) (d : Fin 3), behind c (flip d) = ahead c d := by decide
theorem flip_flip : ∀ d : Fin 3, flip (flip d) = d := by decide

/-- Going `d + 1` places on is a permutation of the devices. -/
def turn (d : Fin 3) : Dev nD ≃ Dev nD := ⟨fun c => ahead c d, fun c => behind c d, fun c => behind_ahead c d, fun c => ahead_behind c d⟩

theorem dev1_eq (c : Dev nD) : (⟨k0_dev1 c, k0_dev1_lt c⟩ : Dev nD) = ahead c 0 := by revert c; decide +kernel
theorem dev2_eq (c : Dev nD) : (⟨k0_dev2 c, k0_dev2_lt c⟩ : Dev nD) = ahead c 1 := by revert c; decide +kernel
theorem dev3_eq (c : Dev nD) : (⟨k0_dev3 c, k0_dev3_lt c⟩ : Dev nD) = ahead c 2 := by revert c; decide +kernel
theorem dev4_eq (c : Dev nD) : (⟨k0_dev4 c, k0_dev4_lt c⟩ : Dev nD) = ahead c 0 := by revert c; decide +kernel
theorem dev5_eq (c : Dev nD) : (⟨k0_dev5 c, k0_dev5_lt c⟩ : Dev nD) = ahead c 1 := by revert c; decide +kernel
theorem dev6_eq (c : Dev nD) : (⟨k0_dev6 c, k0_dev6_lt c⟩ : Dev nD) = ahead c 2 := by revert c; decide +kernel

/-- The slot read after the wait for copy `d` is that of the device the copy comes from; -/
theorem off4_eq : ∀ (c : Dev nD) (d : Fin 3), k0_off4 c (BitVec.ofNat 32 (1 + d.val)) = ![(behind c d).val, 0, 0] := by decide +kernel
/-- the rows written there are that device's. -/
theorem off5_eq : ∀ (c : Dev nD) (d : Fin 3), k0_off5 c (BitVec.ofNat 32 (1 + d.val)) = ![768 * (behind c d).val, 0] := by decide +kernel

/-! ## Slots of the gathered operand, row blocks of the result -/

/-- The elements of slot `j`. -/
def slot (j : Dev nD) : Finset S4x768x384.Idx := Finset.univ.filter fun i => (i 0).val = j.val
/-- The elements of row block `j` of the result. -/
def rows (j : Dev nD) : Finset S3072x768.Idx := Finset.univ.filter fun i => (i 0).val / 768 = j.val

theorem mem_slot {j : Dev nD} {i : S4x768x384.Idx} : i ∈ slot j ↔ (i 0).val = j.val := by simp [slot]
theorem mem_rows {j : Dev nD} {i : S3072x768.Idx} : i ∈ rows j ↔ (i 0).val / 768 = j.val := by simp [rows]

theorem slot_disjoint (j j' : Dev nD) (h : j ≠ j') : Disjoint (slot j) (slot j') := by
  rw [Finset.disjoint_left]
  intro i hi hi'
  rw [mem_slot] at hi hi'
  exact h (Fin.ext (hi.symm.trans hi'))

theorem slot_cover : Finset.univ.biUnion slot = Finset.univ := by
  ext i
  simp only [Finset.mem_biUnion, Finset.mem_univ, true_and, iff_true]
  exact ⟨⟨(i 0).val, (i 0).isLt⟩, mem_slot.mpr rfl⟩

/-- The rectangle the kernel names a slot by covers the slot. -/
theorem slot_rect {off : Fin 3 → Nat} {j : Dev nD} (h : off = ![j.val, 0, 0]) (inb) :
    (Rect.unit (s := S4x768x384) off S1x768x384.size inb).set = slot j := by
  subst h
  ext i
  rw [Rect.mem_set_unit, mem_slot]
  have h1 : (i 1).val < 768 := (i 1).isLt
  have h2 : (i 2).val < 384 := (i 2).isLt
  constructor
  · intro h
    have h0 : j.val ≤ (i 0).val ∧ (i 0).val < j.val + 1 := h 0
    omega
  · intro h a
    fin_cases a
    · show j.val ≤ (i 0).val ∧ (i 0).val < j.val + 1
      omega
    · show 0 ≤ (i 1).val ∧ (i 1).val < 0 + 768
      omega
    · show 0 ≤ (i 2).val ∧ (i 2).val < 0 + 384
      omega

/-- The rectangle the kernel names a row block by covers the block. -/
theorem rows_rect {off : Fin 2 → Nat} {j : Dev nD} (h : off = ![768 * j.val, 0]) (inb) :
    (Rect.unit (s := S3072x768) off S768x768.size inb).set = rows j := by
  subst h
  ext i
  rw [Rect.mem_set_unit, mem_rows]
  have h1 : (i 1).val < 768 := (i 1).isLt
  constructor
  · intro h
    have h0 : 768 * j.val ≤ (i 0).val ∧ (i 0).val < 768 * j.val + 768 := h 0
    omega
  · intro h a
    fin_cases a
    · show 768 * j.val ≤ (i 0).val ∧ (i 0).val < 768 * j.val + 768
      omega
    · show 0 ≤ (i 1).val ∧ (i 1).val < 0 + 768
      omega

/-! ## The memrefs -/

abbrev aM : Memref sig .tc .vmem S768x384 .f32 := Memref.whole cc0_stg0_0
abbrev bM : Memref sig .tc .vmem S384x768 .f32 := Memref.whole cc0_stg1_0
abbrev oM : Memref sig .tc .vmem S3072x768 .f32 := Memref.whole cc0_stg2_0
abbrev gM : Memref sig .tc .vmem S4x768x384 .bf16 := Memref.whole cc0_scratch0

/-- The slot a device's copies read and, on the peers, write. -/
abbrev slotM (c : Dev nD) : Memref sig .tc .vmem S768x384 .bf16 :=
  (gM.slice (Rect.unit (s := S4x768x384) (k0_off2 c) S1x768x384.size (k0_off2_inb c)) (fun _ => rfl)).squeeze S768x384 squeezes_S1x768x384_S768x384

theorem slotM_set (c : Dev nD) : (slotM c).view.set = slot c := by
  refine (View.set_reshape (gM.slice (Rect.unit (s := S4x768x384) (k0_off2 c) S1x768x384.size (k0_off2_inb c)) (fun _ => rfl)).view _).trans ?_
  exact (View.set_slice_whole cc0_scratch0 (Rect.unit (s := S4x768x384) (k0_off2 c) S1x768x384.size (k0_off2_inb c))).trans (slot_rect (k0_off2_eq c) _)

/-! ## Contents -/

variable (m : (ℓ : Loc nD τ sig) → Buf (Elt F) ℓ)

/-- Device `c`'s rows of `A`, and its `B`, as the kernel finds them staged. -/
def shard (c : Dev nD) : (cc0_stg0_0 : Ref sig .tc).ty.Contents (Elt F) := iblk m c (0 : Fin 3) t0_0
def right (c : Dev nD) : (cc0_stg1_0 : Ref sig .tc).ty.Contents (Elt F) := iblk m c (1 : Fin 3) t0_0

/-- Place of an element within its slot, within its row block. -/
def inSlot (i : S4x768x384.Idx) : S1x768x384.Idx := fun a => match a with
  | ⟨0, _⟩ => (⟨0, by decide⟩ : Fin 1) | ⟨1, _⟩ => (i 1 : Fin 768) | ⟨2, _⟩ => (i 2 : Fin 384)
def inRows (i : S3072x768.Idx) : S768x768.Idx := fun a => match a with
  | ⟨0, _⟩ => (⟨(i 0).val % 768, Nat.mod_lt _ (by decide)⟩ : Fin 768) | ⟨1, _⟩ => (i 1 : Fin 768)

/-- The gathered operand: slot `j` holds device `j`'s rows, in bf16. The same on every device. -/
def gathered : (cc0_scratch0 : Ref sig .tc).ty.Contents (Elt F) := fun i =>
  k0_pay1 (shard m ⟨(i 0).val, (i 0).isLt⟩) (inSlot i)

/-- The product of device `j`'s rows with device `c`'s `B`. -/
def block (c j : Dev nD) : FVec F S768x768 .f32 := k0_pay3 (k0_pay2 (right m c)) (k0_pay1 (shard m j))

/-- The result on device `c`: row block `j` is the product for device `j`'s rows. -/
def product (c : Dev nD) : (cc0_stg2_0 : Ref sig .tc).ty.Contents (Elt F) := fun i =>
  block m c ⟨(i 0).val / 768, by have h : (i 0).val < 3072 := (i 0).isLt; show (i 0).val / 768 < 4; omega⟩ (inRows i)

/-- A slot read off the gathered operand is its device's rows. -/
theorem read_gathered {off : Fin 3 → Nat} {j : Dev nD} (h : off = ![j.val, 0, 0]) (inb) :
    gM.view.readAt (Elt F) (Rect.unit (s := S4x768x384) off S1x768x384.size inb).toLoadRect (gathered m) = k0_pay1 (shard m j) := by
  subst h
  funext x
  have h0 : (x 0).val = 0 := by have : (x 0).val < 1 := (x 0).isLt; omega
  show gathered m ((Rect.unit (s := S4x768x384) ![j.val, 0, 0] S1x768x384.size inb).emb x) = _
  unfold gathered
  have hj : (⟨((Rect.unit (s := S4x768x384) ![j.val, 0, 0] S1x768x384.size inb).emb x 0).val, Fin.isLt _⟩ : Dev nD) = j := by
    apply Fin.ext
    rw [Rect.emb_apply]
    show j.val + 1 * (x 0).val = j.val
    omega
  have hx : inSlot ((Rect.unit (s := S4x768x384) ![j.val, 0, 0] S1x768x384.size inb).emb x) = x := by
    funext a
    apply Fin.ext
    fin_cases a
    · exact h0.symm
    · show ((Rect.unit (s := S4x768x384) ![j.val, 0, 0] S1x768x384.size inb).emb x 1).val = _
      rw [Rect.emb_apply]; show 0 + 1 * (x 1).val = (x 1).val; omega
    · show ((Rect.unit (s := S4x768x384) ![j.val, 0, 0] S1x768x384.size inb).emb x 2).val = _
      rw [Rect.emb_apply]; show 0 + 1 * (x 2).val = (x 2).val; omega
  exact (congrArg (fun d => k0_pay1 (shard m d) _) hj).trans (congrArg (k0_pay1 (shard m j)) hx)

/-- A row block read off the result is its device's product. -/
theorem read_product (c : Dev nD) {off : Fin 2 → Nat} {j : Dev nD} (h : off = ![768 * j.val, 0]) (inb) :
    (oM.access (Rect.unit (s := S3072x768) off S768x768.size inb)).read (Elt F) (product m c) = block m c j := by
  subst h
  funext x
  have h0 : (x 0).val < 768 := (x 0).isLt
  show product m c ((Rect.unit (s := S3072x768) ![768 * j.val, 0] S768x768.size inb).emb x) = _
  unfold product
  have e0 : ((Rect.unit (s := S3072x768) ![768 * j.val, 0] S768x768.size inb).emb x 0).val = 768 * j.val + (x 0).val := by
    rw [Rect.emb_apply]; show 768 * j.val + 1 * (x 0).val = _; omega
  have e1 : ((Rect.unit (s := S3072x768) ![768 * j.val, 0] S768x768.size inb).emb x 1).val = (x 1).val := by
    rw [Rect.emb_apply]; show 0 + 1 * (x 1).val = _; omega
  have hj : ∀ p, (⟨((Rect.unit (s := S3072x768) ![768 * j.val, 0] S768x768.size inb).emb x 0).val / 768, p⟩ : Dev nD) = j := by
    intro p
    apply Fin.ext
    show ((Rect.unit (s := S3072x768) ![768 * j.val, 0] S768x768.size inb).emb x 0).val / 768 = j.val
    rw [e0]; omega
  have hx : inRows ((Rect.unit (s := S3072x768) ![768 * j.val, 0] S768x768.size inb).emb x) = x := by
    funext a
    apply Fin.ext
    fin_cases a
    · show ((Rect.unit (s := S3072x768) ![768 * j.val, 0] S768x768.size inb).emb x 0).val % 768 = (x 0).val
      rw [e0]; omega
    · exact e1
  exact (congrArg (fun d => block m c d _) (hj _)).trans (congrArg (block m c j) hx)

/-- Storing a device's rows over its slot leaves the gathered operand there. -/
theorem store_slot {off : Fin 3 → Nat} {j : Dev nD} (h : off = ![j.val, 0, 0]) (inb) (f : (cc0_scratch0 : Ref sig .tc).ty.Contents (Elt F)) :
    ∀ i ∈ slot j, (gM.access (Rect.unit (s := S4x768x384) off S1x768x384.size inb)).write (Elt F) f (k0_pay1 (shard m j)) Finset.univ i = gathered m i := by
  intro i hi
  rw [← read_gathered m h inb, View.readAt_rect]
  erw [View.write_read_eq_piecewise]
  exact Finset.piecewise_eq_of_mem _ _ _ (by
    rw [View.setOn_univ]
    exact ((View.set_slice_whole cc0_scratch0 (Rect.unit (s := S4x768x384) off S1x768x384.size inb)).trans (slot_rect h inb)).symm ▸ hi)

/-- Storing a product over its row block leaves the result there and changes nothing else. -/
theorem store_rows (c : Dev nD) {off : Fin 2 → Nat} {j : Dev nD} (h : off = ![768 * j.val, 0]) (inb) (f : (cc0_stg2_0 : Ref sig .tc).ty.Contents (Elt F)) :
    (oM.access (Rect.unit (s := S3072x768) off S768x768.size inb)).write (Elt F) f (block m c j) Finset.univ = (rows j).piecewise (product m c) f := by
  rw [← read_product m c h inb, View.write_read_eq_piecewise, View.setOn_univ]
  congr 1
  exact (View.set_slice_whole cc0_stg2_0 (Rect.unit (s := S3072x768) off S768x768.size inb)).trans (rows_rect h inb)

/-- A copy of a slot holding the gathered operand leaves the gathered operand in the same slot. -/
theorem copy_slot (j : Dev nD) (f : (cc0_scratch0 : Ref sig .tc).ty.Contents (Elt F)) :
    ∀ i ∈ slot j, (slotM j).view.write (Elt F) f ((slotM j).view.read (Elt F) (gathered m)) Finset.univ i = gathered m i := by
  intro i hi
  rw [View.write_read_eq_piecewise]
  exact Finset.piecewise_eq_of_mem _ _ _ (by rw [View.setOn_univ, slotM_set]; exact hi)

theorem devices_all : ∀ c j : Dev nD, j = c ∨ j = behind c 0 ∨ j = behind c 1 ∨ j = behind c 2 := by decide

/-- All four row blocks stored, the result is complete, whatever it held. -/
theorem store_all (c : Dev nD) (f : (cc0_stg2_0 : Ref sig .tc).ty.Contents (Elt F)) :
    (rows (behind c 2)).piecewise (product m c) ((rows (behind c 1)).piecewise (product m c)
      ((rows (behind c 0)).piecewise (product m c) ((rows c).piecewise (product m c) f))) = product m c := by
  funext i
  have hj : i ∈ rows ⟨(i 0).val / 768, by have h : (i 0).val < 3072 := (i 0).isLt; show (i 0).val / 768 < 4; omega⟩ := mem_rows.mpr rfl
  simp only [Finset.piecewise]
  rcases devices_all c ⟨(i 0).val / 768, by have h : (i 0).val < 3072 := (i 0).isLt; show (i 0).val / 768 < 4; omega⟩ with h | h | h | h <;>
    rw [h] at hj <;> simp only [hj, if_true] <;> (repeat' split) <;> rfl

theorem pay4_eq : (k0_pay4 (F := F)) = k0_pay3 := rfl
theorem pay5_eq : (k0_pay5 (F := F)) = k0_pay3 := rfl
theorem pay6_eq : (k0_pay6 (F := F)) = k0_pay3 := rfl

end Cert.Gather

end
-- ==== Proof.Protocol.lean ====
/-
  The handshake and the copies as a schedule of semaphore rounds: who owes which units to which
  semaphore, what each hands over, and in what order the waits may come.
-/
module

public import proofs.«01_k».proof.Proof.Cells

@[expose] public section

set_option maxRecDepth 16384

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

variable (m : (ℓ : Loc nD τ sig) → Buf (Elt F) ℓ) (ρ : Dev nD → PrngReg)

/-! ## The semaphores -/

/-- The barrier's semaphore, and the semaphores of copy `d`'s departure and arrival. -/
abbrev barS : Sem sig := (SemArray.scalar (sig.barrier 0 rfl) : Sems sig S_).sem
def sendS (d : Fin 3) : DmaSem sig := (⟨3 + d.val, by omega⟩ : Fin 9)
def recvS (d : Fin 3) : DmaSem sig := (⟨3 + (3 + d.val), by omega⟩ : Fin 9)

/-- The kernel's own semaphores, and with the barrier's in front all it uses. -/
def osem : Fin 6 → SemLoc sig := fun k => .dma (⟨3 + k.val, by omega⟩ : Fin 9)
def csem : Fin 7 → SemLoc sig
  | ⟨0, _⟩ => .reg barS
  | ⟨n + 1, h⟩ => .dma (⟨3 + n, by omega⟩ : Fin 9)
def sendK (d : Fin 3) : Fin 7 := ⟨d.val + 1, by omega⟩
def recvK (d : Fin 3) : Fin 7 := ⟨(3 + d.val) + 1, by omega⟩

abbrev barCell (c : Dev nD) : GSem nD τ sig := ((c : Thread nD τ), .reg barS)
abbrev sendCell (c : Dev nD) (d : Fin 3) : GSem nD τ sig := ((c : Thread nD τ), .dma (sendS d))
abbrev recvCell (c : Dev nD) (d : Fin 3) : GSem nD τ sig := ((c : Thread nD τ), .dma (recvS d))
abbrev cell (x : Dev nD × Fin 7) : GSem nD τ sig := ((x.1 : Thread nD τ), csem x.2)

theorem csem_injective : Function.Injective csem := by decide
theorem cell_injective : Function.Injective cell := by
  rintro ⟨c, k⟩ ⟨c', k'⟩ h
  exact Prod.ext (congrArg (fun g : GSem nD τ sig => g.1.1) h) (csem_injective (congrArg Prod.snd h))

theorem barCell_inj {a b : Dev nD} : barCell a = barCell b ↔ a = b :=
  ⟨fun h => congrArg (fun g : GSem nD τ sig => g.1.1) h, fun h => h ▸ rfl⟩
theorem recvS_inj {d e : Fin 3} (h : (SemLoc.dma (recvS d) : SemLoc sig) = .dma (recvS e)) : d = e := by
  revert d e; decide
theorem recvCell_inj {a b : Dev nD} {d e : Fin 3} : recvCell a d = recvCell b e ↔ a = b ∧ d = e :=
  ⟨fun h => ⟨congrArg (fun g : GSem nD τ sig => g.1.1) h, recvS_inj (congrArg Prod.snd h)⟩, fun h => by rw [h.1, h.2]⟩
theorem bar_ne_recv (a b : Dev nD) (d : Fin 3) : barCell a ≠ recvCell b d := fun h => by cases congrArg Prod.snd h

/-- The units a copy of a slot credits. -/
def N : ℕ := (slotM (0 : Dev nD)).view.dmaCredit
theorem N_pos : 0 < N := View.dmaCredit_pos _ (by decide)
theorem slot_credit (c : Dev nD) : (slotM c).view.dmaCredit = N :=
  show sig.dmaCredit .tc (Kind.table .tc .vmem) (slotM c).view.buf S768x384 .bf16 = sig.dmaCredit .tc (Kind.table .tc .vmem) (slotM (0 : Dev nD)).view.buf S768x384 .bf16 from
    congrArg (fun b => sig.dmaCredit .tc (Kind.table .tc .vmem) b S768x384 .bf16) (show (slotM c).view.buf = gM.view.buf from rfl)

/-! ## What is handed over -/

/-- Slot `j` of device `c`'s gathered operand, a share of it, holding `f`. -/
def held (c : Dev nD) (j : Dev nD) (q : PosShare TreeShare) (f : Buf (Elt F) ((c : Thread nD τ).loc cc0_scratch0)) : sProp 𝕄 :=
  ((c : Thread nD τ).loc cc0_scratch0) ↦[slot j]{q} f

instance held_storable (c j : Dev nD) (q) (f) : BI.Storable (upEmb : UEmb _ 𝕄) (held (F := F) c j q f) := by unfold held; infer_instance

/-- The same over the memref a copy names. -/
theorem held_memref (t j : Dev nD) (q : PosShare TreeShare) (f : Buf (Elt F) ((t : Thread nD τ).loc cc0_scratch0)) :
    ((slotM j).view.loc (t : Thread nD τ) ↦[(slotM j).view.set]{q} f : sProp 𝕄) = held t j q f :=
  congrArg (fun S => (((t : Thread nD τ).loc cc0_scratch0) ↦[S]{q} f : sProp 𝕄)) (slotM_set j)

/-- Barrier unit `e` of device `c`, paid by the device `e + 1` places on: that device's slot for `c`, to write. -/
def barPay (c : Dev nD) (e : Fin 3) : sProp 𝕄 := iprop(∃ f, held (ahead c e) c fullShare f)
/-- Departure `d`: the share of its own slot the copy read. -/
def sendPay (c : Dev nD) (d : Fin 3) : sProp 𝕄 := held c c (Transfers.shareTok fullShare 3 d) (gathered m)
/-- Arrival `d`: the slot of the device it came from, filled. -/
def recvPay (c : Dev nD) (d : Fin 3) : sProp 𝕄 := held c (behind c d) fullShare (gathered m)

def third (s : DmaSem sig) : Fin 3 := ⟨s.val % 3, Nat.mod_lt _ (by decide)⟩

/-- What a device's DMA semaphore hands it. -/
def dmaPay (c : Dev nD) (s : DmaSem sig) : sProp 𝕄 := if s.val < 6 then sendPay m c (third s) else recvPay m c (third s)

theorem dmaPay_send (c : Dev nD) (d : Fin 3) : dmaPay m c (sendS d) = sendPay m c d := by
  have h : (sendS d).val < 6 := by show 3 + d.val < 6; omega
  unfold dmaPay; rw [if_pos h]
  exact congrArg _ (Fin.ext (by show (3 + d.val) % 3 = d.val; omega))
theorem dmaPay_recv (c : Dev nD) (d : Fin 3) : dmaPay m c (recvS d) = recvPay m c d := by
  have h : ¬ (recvS d).val < 6 := by show ¬ 3 + (3 + d.val) < 6; omega
  unfold dmaPay; rw [if_neg h]
  exact congrArg _ (Fin.ext (by show (3 + (3 + d.val)) % 3 = d.val; omega))

/-- One round: a barrier cell gets three units, one from each peer; a DMA cell one copy's credit. -/
def sched : Rounds.Schedule (GSem nD τ sig) (Fin 3) 𝕄 where
  duties g r := if r = 0 then (match g.2 with | .reg _ => Finset.univ | .dma _ => {0}) else ∅
  unitless _ := False
  amount g _ _ := match g.2 with | .reg _ => 1 | .dma _ => N
  payload g _ e := match g.2 with | .reg _ => barPay g.1.1 e | .dma s => dmaPay m g.1.1 s
  amount_pos g r d _ := by
    rcases g with ⟨t, s | s⟩
    · exact Nat.one_pos
    · exact N_pos

instance sched_storable (g : GSem nD τ sig) (r : ℕ) (e : Fin 3) : BI.Storable (upEmb : UEmb _ 𝕄) ((sched (F := F) m).payload g r e) := by
  rcases g with ⟨t, s | s⟩
  · show BI.Storable upEmb (barPay t.1 e)
    unfold barPay; infer_instance
  · show BI.Storable upEmb (dmaPay m t.1 s)
    unfold dmaPay sendPay recvPay
    split <;> infer_instance

theorem duties_bar (c : Dev nD) : (sched (F := F) m).duties (barCell c) 0 = Finset.univ := rfl
theorem duties_dma (c : Dev nD) (s : DmaSem sig) : (sched (F := F) m).duties ((c : Thread nD τ), .dma s) 0 = {0} := rfl
theorem duties_later (g : GSem nD τ sig) (r : ℕ) (hr : 1 ≤ r) : (sched (F := F) m).duties g r = ∅ := if_neg (by omega)
theorem expect_bar (c : Dev nD) : (sched (F := F) m).expect (barCell c) 0 = 3 := rfl
theorem expect_dma (c : Dev nD) (s : DmaSem sig) : (sched (F := F) m).expect ((c : Thread nD τ), .dma s) 0 = N := by
  unfold Schedule.expect Schedule.amountOf; rw [duties_dma, Finset.sum_singleton]; rfl

theorem payload_send (c : Dev nD) (d e : Fin 3) : (sched (F := F) m).payload (sendCell c d) 0 e = sendPay m c d := dmaPay_send m c d
theorem payload_recv (c : Dev nD) (d e : Fin 3) : (sched (F := F) m).payload (recvCell c d) 0 e = recvPay m c d := dmaPay_recv m c d
theorem amount_dma (c : Dev nD) (s : DmaSem sig) (e : Fin 3) : (sched (F := F) m).amount ((c : Thread nD τ), .dma s) 0 e = N := rfl

theorem bigSep_three (Φ : Fin 3 → sProp 𝕄) : bigSep Finset.univ Φ = iprop(Φ 0 ∗ Φ 1 ∗ Φ 2) := bigSep_univ_eq_bigSepL [0, 1, 2] (by decide) (by decide) Φ

/-- What a wait on the barrier brings: the three peers' slots for `c`; -/
theorem rest_bar (c : Dev nD) : bigSep ((sched (F := F) m).duties (barCell c) 0 \ ∅) (fun e => (sched (F := F) m).payload (barCell c) 0 e)
    = iprop(barPay c 0 ∗ barPay c 1 ∗ barPay c 2) := by
  rw [Finset.sdiff_empty, duties_bar, bigSep_three]; rfl
/-- what a wait on a departure brings; -/
theorem rest_send (c : Dev nD) (d : Fin 3) : bigSep ((sched (F := F) m).duties (sendCell c d) 0 \ ∅) (fun e => (sched (F := F) m).payload (sendCell c d) 0 e) = sendPay m c d := by
  rw [Finset.sdiff_empty, duties_dma, bigSep_singleton]; exact dmaPay_send m c d
/-- what a wait on an arrival brings. -/
theorem rest_recv (c : Dev nD) (d : Fin 3) : bigSep ((sched (F := F) m).duties (recvCell c d) 0 \ ∅) (fun e => (sched (F := F) m).payload (recvCell c d) 0 e) = recvPay m c d := by
  rw [Finset.sdiff_empty, duties_dma, bigSep_singleton]; exact dmaPay_recv m c d

/-! ## What is owed, and the order of the waits -/

/-- A copy's credit at its target, a signal's unit at its. -/
def copyDue (c : Dev nD) (d : Fin 3) : CellTallies nD τ sig Unit := tallyAt (recvCell (ahead c d) d) () N
def unitDue (c : Dev nD) (d : Fin 3) : CellTallies nD τ sig Unit := tallyAt (barCell (ahead c d)) () 1
/-- The copies device `c` owes once its signals are sent; everything it owes at launch. -/
def copiesDue (c : Dev nD) : CellTallies nD τ sig Unit := copyDue c 2 + copyDue c 1 + copyDue c 0
def allDue (c : Dev nD) : CellTallies nD τ sig Unit := copiesDue c + unitDue c 2 + unitDue c 1 + unitDue c 0

def L (g : GSem nD τ sig) : Finset Unit := if g.1.2 = .tc then {()} else ∅
/-- Staging and departures below the barrier, the barrier below the arrivals. -/
def lv (g : GSem nD τ sig) (_ : Unit) : ℕ := match g.2 with | .reg _ => 1 | .dma s => if s.val < 6 then 0 else 2

theorem L_of_ne (g : GSem nD τ sig) (h : g.1.2 ≠ .tc) : L g = ∅ := if_neg h
theorem L_tc (c : Dev nD) (s : SemLoc sig) : L ((c : Thread nD τ), s) = {()} := if_pos rfl

theorem copyDue_apply (c : Dev nD) (d : Fin 3) (g : GSem nD τ sig) : copyDue c d g () = if g = recvCell (ahead c d) d then N else 0 := by
  unfold copyDue; rw [tallyAt_apply]; simp
theorem unitDue_apply (c : Dev nD) (d : Fin 3) (g : GSem nD τ sig) : unitDue c d g () = if g = barCell (ahead c d) then 1 else 0 := by
  unfold unitDue; rw [tallyAt_apply]; simp

theorem copiesDue_apply (c : Dev nD) (g : GSem nD τ sig) : copiesDue c g () = copyDue c 2 g () + copyDue c 1 g () + copyDue c 0 g () := rfl
theorem allDue_apply (c : Dev nD) (g : GSem nD τ sig) : allDue c g () = copiesDue c g () + unitDue c 2 g () + unitDue c 1 g () + unitDue c 0 g () := rfl

theorem copiesDue_pos {c : Dev nD} {g : GSem nD τ sig} (h : 0 < copiesDue c g ()) : ∃ d, g = recvCell (ahead c d) d := by
  by_contra hn
  rw [not_exists] at hn
  rw [copiesDue_apply, copyDue_apply, copyDue_apply, copyDue_apply, if_neg (hn 0), if_neg (hn 1), if_neg (hn 2)] at h
  exact Nat.lt_irrefl 0 h
theorem allDue_pos {c : Dev nD} {g : GSem nD τ sig} (h : 0 < allDue c g ()) : (∃ d, g = recvCell (ahead c d) d) ∨ ∃ d, g = barCell (ahead c d) := by
  by_cases h0 : 0 < copiesDue c g ()
  · exact Or.inl (copiesDue_pos h0)
  · right
    by_contra hn
    rw [not_exists] at hn
    rw [allDue_apply, unitDue_apply, unitDue_apply, unitDue_apply, if_neg (hn 0), if_neg (hn 1), if_neg (hn 2)] at h
    omega

theorem lv_recv (c : Dev nD) (d : Fin 3) (u : Unit) : lv (recvCell c d) u = 2 := if_neg (by show ¬ 3 + (3 + d.val) < 6; omega)

/-- At its barrier wait a device owes its copies only, all above. -/
theorem mayWait_bar (c : Dev nD) : (levAts L lv : sProp 𝕄) ⊢ MayWait (c : Thread nD τ) (.reg barS) () (copiesDue c) :=
  MayOwe.of_cut (L := L) (lev := lv) 1 (fun p hp => by rw [Finset.mem_singleton.mp hp, L_tc]; exact Finset.mem_singleton_self _)
    (fun g u hg => by obtain ⟨d, rfl⟩ := copiesDue_pos hg; rw [L_tc]; exact Finset.mem_singleton_self _)
    (fun p hp => by rw [Finset.mem_singleton.mp hp]; exact le_refl _)
    (fun g u hg => by obtain ⟨d, rfl⟩ := copiesDue_pos hg; rw [lv_recv]; decide)

/-- The staging copies' waits come below all that is owed. -/
theorem mayWait_stage (c : Dev nD) (q : DmaSem sig) (hq : q.val < 6) (O : CellTallies nD τ sig Unit) (hO : O = allDue c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases allDue_pos hg with ⟨d, rfl⟩ | ⟨d, rfl⟩ <;> (rw [L_tc]; exact Finset.mem_singleton_self _))
      (fun p hp => by rw [Finset.mem_singleton.mp hp]; exact le_of_eq (if_pos hq))
      (fun g u hg => by
        rcases allDue_pos hg with ⟨d, rfl⟩ | ⟨d, rfl⟩
        · rw [lv_recv]; decide
        · exact Nat.one_pos)
  · rw [MayWait_zero]; iintro -; iempintro

/-! ## The launch credit -/

theorem due_bar (p c : Dev nD) : allDue p (barCell c) () = (if c = ahead p 2 then 1 else 0) + (if c = ahead p 1 then 1 else 0) + (if c = ahead p 0 then 1 else 0) := by
  rw [allDue_apply, copiesDue_apply, copyDue_apply, copyDue_apply, copyDue_apply, if_neg (bar_ne_recv _ _ _), if_neg (bar_ne_recv _ _ _), if_neg (bar_ne_recv _ _ _),
    unitDue_apply, unitDue_apply, unitDue_apply]
  simp only [barCell_inj, Nat.zero_add]

theorem due_recv (p c : Dev nD) (d : Fin 3) : allDue p (recvCell c d) () = if p = behind c d then N else 0 := by
  have hb : ∀ e, recvCell c d ≠ barCell (ahead p e) := fun e h => bar_ne_recv _ _ _ h.symm
  have he : ∀ e, (recvCell c d = recvCell (ahead p e) e) ↔ (p = behind c d ∧ d = e) := by
    intro e
    rw [recvCell_inj]
    constructor
    · rintro ⟨h, rfl⟩; exact ⟨by rw [h, behind_ahead], rfl⟩
    · rintro ⟨h, rfl⟩; exact ⟨by rw [h, ahead_behind], rfl⟩
  rw [allDue_apply, copiesDue_apply, copyDue_apply, copyDue_apply, copyDue_apply, unitDue_apply, unitDue_apply, unitDue_apply, if_neg (hb _), if_neg (hb _), if_neg (hb _)]
  simp only [he]
  by_cases h : p = behind c d
  · fin_cases d <;> simp [h]
  · simp [h]

theorem launch_bar (c : Dev nD) :
    tallyOn (barCell c) (launchCredit (Pipeline.owing allDue) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => due_bar d c]
  revert c; decide

theorem launch_recv (c : Dev nD) (d : Fin 3) :
    tallyOn (recvCell c d) (launchCredit (Pipeline.owing allDue) 0 (recvCell c d)) = (tallyAt (recvCell c d) () N : CellTallies nD τ sig Unit) := by
  unfold tallyAt; refine congrArg _ (Finsupp.ext fun u => ?_); cases u
  rw [Pipeline.launchCredit_owing, Finsupp.single_eq_same, Finset.sum_congr rfl fun p _ => due_recv p c d, Finset.sum_ite_eq' Finset.univ (behind c d) fun _ => N,
    if_pos (Finset.mem_univ _)]

end Cert.Gather

end
-- ==== Proof.Steps.lean ====
/-
  The kernel's steps on any device, one lemma each: the ready signals, the copies, the waits, the
  closing of the semaphores; and the proof data of its launch.
-/
module

public import proofs.«01_k».proof.Proof.Protocol
public import Idealize.ShloMosaic.Lib.Ring

@[expose] public section

set_option maxRecDepth 16384

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- The invariants device `c` opens for its copy and signal `d`, under the names `K`. -/
def invsAt (K : Dev nD × Fin 7 → ℕ) (c : Dev nD) (d : Fin 3) : sProp 𝕄 :=
  iprop(cellInv ER (sched m) (K (c, sendK d)) (sendCell c d) ∗ cellInv ER (sched m) (K (c, recvK d)) (recvCell c d)
    ∗ cellInv ER (sched m) (K (ahead c d, 0)) (barCell (ahead c d)) ∗ cellInv ER (sched m) (K (ahead c d, recvK d)) (recvCell (ahead c d) d))
/-- That the cells it pays have reached their round. -/
def marksAt (c : Dev nD) (d : Fin 3) : sProp 𝕄 :=
  iprop(reached ER (barCell (ahead c d)) 0 ∗ reached ER (sendCell c d) 0 ∗ reached ER (recvCell (ahead c d) d) 0)
/-- Its positions at its own cells. -/
def posAt (c : Dev nD) (d : Fin 3) : sProp 𝕄 := iprop(atPos ER (sendCell c d) 0 ∅ 0 ∗ atPos ER (recvCell c d) 0 ∅ 0)
/-- The tokens of the duties it pays. -/
def toksAt (c : Dev nD) (d : Fin 3) : sProp 𝕄 :=
  iprop(dutyTok ER (barCell (ahead c d)) 0 (flip d) ∗ dutyTok ER (sendCell c d) 0 0 ∗ dutyTok ER (recvCell (ahead c d) d) 0 0)

instance invsAt_persistent (K : Dev nD × Fin 7 → ℕ) (c : Dev nD) (d : Fin 3) : BI.Persistent (invsAt (F := F) m K c d) := by unfold invsAt; infer_instance
instance marksAt_persistent (c : Dev nD) (d : Fin 3) : BI.Persistent (marksAt (F := F) c d) := by unfold marksAt; infer_instance

/-- The ghost state device `c` starts from. -/
def ghost (K : Dev nD × Fin 7 → ℕ) (c : Dev nD) : sProp 𝕄 :=
  iprop(cellInv ER (sched m) (K (c, 0)) (barCell c) ∗ (invsAt m K c 0 ∗ invsAt m K c 1 ∗ invsAt m K c 2) ∗ (marksAt c 0 ∗ marksAt c 1 ∗ marksAt c 2)
    ∗ atPos ER (barCell c) 0 ∅ 0 ∗ (posAt c 0 ∗ posAt c 1 ∗ posAt c 2) ∗ (toksAt c 0 ∗ toksAt c 1 ∗ toksAt c 2))

/-- Its credits. -/
def credits (c : Dev nD) : sProp 𝕄 :=
  iprop(cred (tallyAt (barCell c) () 3) ∗ cred (tallyAt (recvCell c 0) () N) ∗ cred (tallyAt (recvCell c 1) () N) ∗ cred (tallyAt (recvCell c 2) () N))

def start (c : Dev nD) : sProp 𝕄 := iprop((∃ K, ghost m K c) ∗ credits c ∗ levAts L lv)

/-- Its semaphores spent, at zero. -/
def spent (c : Dev nD) : sProp 𝕄 :=
  iprop(semVal (barCell c) 0 ∗ (semVal (sendCell c 0) 0 ∗ semVal (sendCell c 1) 0 ∗ semVal (sendCell c 2) 0)
    ∗ semVal (recvCell c 0) 0 ∗ semVal (recvCell c 1) 0 ∗ semVal (recvCell c 2) 0)

def Φ₀ (c : Dev nD) : sProp 𝕄 := iprop(start m c ∗ ∃ f : Buf (Elt F) ((c : Thread nD τ).loc cc0_scratch0), ((c : Thread nD τ).loc cc0_scratch0) ↦{fullShare} f)
/-- The gathered operand complete, the semaphores at zero. -/
def Φ₁ (c : Dev nD) : sProp 𝕄 := iprop((((c : Thread nD τ).loc cc0_scratch0) ↦{fullShare} (gathered m : Buf (Elt F) ((c : Thread nD τ).loc cc0_scratch0))) ∗ spent c)

def dats (_ : Fin 1) (c : Dev nD) : Dat τ (Elt F) Unit ℕ UU ℕ cfg0 c where
  A w := V m c (Pipeline.arrRef spec0 w)
  after w _ := match w with
    | ⟨0, _⟩ => shard m c
    | ⟨1, _⟩ => right m c
    | ⟨2, _⟩ => product m c
  Φ t := match t with
    | ⟨0, _⟩ => Φ₀ m c
    | ⟨_ + 1, _⟩ => Φ₁ m c
  q _ := fullShare
  owed t := match t with
    | ⟨0, _⟩ => allDue c
    | ⟨_ + 1, _⟩ => 0

abbrev 𝒱₀ : Variants := Variants.none

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Slots and shares -/

/-- The gathered operand is its four slots: the device's own and those it is to hand to its peers, -/
theorem slots_out (t c : Dev nD) (f : Buf (Elt F) ((t : Thread nD τ).loc cc0_scratch0)) :
    (((t : Thread nD τ).loc cc0_scratch0) ↦{fullShare} f : sProp 𝕄)
      = iprop(held t c fullShare f ∗ held t (ahead c 0) fullShare f ∗ held t (ahead c 1) fullShare f ∗ held t (ahead c 2) fullShare f) := by
  have h := Ring.pointsTo_blocks (ℓ := (t : Thread nD τ).loc cc0_scratch0) (Ix := Unit) (Name := ℕ) (U := UU) (Lvl := ℕ) slot slot_disjoint slot_cover (q := fullShare) f
  rw [bigSep_univ_eq_bigSepL [c, ahead c 0, ahead c 1, ahead c 2] (by revert c; decide) (by revert c; decide)] at h
  exact h
/-- or its own and those its peers filled. -/
theorem slots_in (t c : Dev nD) (f : Buf (Elt F) ((t : Thread nD τ).loc cc0_scratch0)) :
    (((t : Thread nD τ).loc cc0_scratch0) ↦{fullShare} f : sProp 𝕄)
      = iprop(held t c fullShare f ∗ held t (behind c 0) fullShare f ∗ held t (behind c 1) fullShare f ∗ held t (behind c 2) fullShare f) := by
  have h := Ring.pointsTo_blocks (ℓ := (t : Thread nD τ).loc cc0_scratch0) (Ix := Unit) (Name := ℕ) (U := UU) (Lvl := ℕ) slot slot_disjoint slot_cover (q := fullShare) f
  rw [bigSep_univ_eq_bigSepL [c, behind c 0, behind c 1, behind c 2] (by revert c; decide) (by revert c; decide)] at h
  exact h

/-- A device's own slot is a share kept and one for each copy. -/
theorem shares (c : Dev nD) (f : Buf (Elt F) ((c : Thread nD τ).loc cc0_scratch0)) :
    (held c c fullShare f : sProp 𝕄) ⊣⊢ iprop(held c c (Transfers.shareDrop fullShare 3) f
      ∗ held c c (Transfers.shareTok fullShare 3 0) f ∗ held c c (Transfers.shareTok fullShare 3 1) f ∗ held c c (Transfers.shareTok fullShare 3 2) f) := by
  unfold held
  rw [← bigSep_three (F := F) fun d => ((c : Thread nD τ).loc cc0_scratch0) ↦[slot c]{Transfers.shareTok fullShare 3 d} f]
  exact ⟨Transfers.pointsTo_toks_split fullShare 3, Transfers.pointsTo_toks_join fullShare 3⟩

/-- The stored rows make the slot the gathered operand's. -/
theorem stored (c : Dev nD) {off : Fin 3 → Nat} (h : off = ![c.val, 0, 0]) (inb) (f : Buf (Elt F) ((c : Thread nD τ).loc cc0_scratch0)) :
    (((gM.access (Rect.unit (s := S4x768x384) off S1x768x384.size inb)).loc (c : Thread nD τ)) ↦[slot c]{fullShare}
      ((gM.access (Rect.unit (s := S4x768x384) off S1x768x384.size inb)).write (Elt F) f (k0_pay1 (shard m c)) Finset.univ) : sProp 𝕄)
      = held c c fullShare (gathered m) :=
  pointsTo_congr (store_slot m h inb f)

/-- A slot's rectangle lies in the slot. -/
theorem in_slot {off : Fin 3 → Nat} {j : Dev nD} (h : off = ![j.val, 0, 0]) (inb) :
    gM.view.setOn (Rect.unit (s := S4x768x384) off S1x768x384.size inb).toLoadRect.set ⊆ slot j := by
  intro i hi
  rw [← slot_rect h inb]
  obtain ⟨x, hx, rfl⟩ := Finset.mem_map.mp hi
  exact hx

/-! ## The steps -/

section Steps
variable (K : Dev nD × Fin 7 → ℕ) (c : Dev nD)

/-- Signal `d`: hands the peer its slot. -/
theorem wp_ready (d : Fin 3) (n : Dev nD) (hn : n = ahead c d) {α : Type} {Q : α → sProp 𝕄} {k : PUnit → Prog (TpuEff nD τ sig (Elt F) Λ₀ .tc) α}
    (O : CellTallies nD τ sig Unit) (W : Waits sig Unit) (f : Buf (Elt F) ((c : Thread nD τ).loc cc0_scratch0)) :
    iprop(invsAt m K c d ∗ marksAt c d ∗ owes (c : Thread nD τ) (O + unitDue c d) W ∗ dutyTok ER (barCell (ahead c d)) 0 (flip d) ∗ held c (ahead c d) fullShare f)
      ⊢ iprop((owes (c : Thread nD τ) O W -∗ wp Idealize.ShloMosaic.frame (wpE (defs₀ (F := F)) 𝒱₀ (c : Thread nD τ) none) Set.univ (k ⟨⟩) Q)
          -∗ wp Idealize.ShloMosaic.frame (wpE (defs₀ (F := F)) 𝒱₀ (c : Thread nD τ) none) Set.univ (.op (.semSignal (n : Thread nD τ) barS (1#32).toInt) k) Q) := by
  subst hn
  unfold invsAt marksAt
  iintro ⟨⟨-, -, #HI, -⟩, ⟨#HR, -, -⟩, HO, Ht, Hs⟩
  iapply (Rounds.wp_signal 𝒱₀ ER (sched m) (c : Thread nD τ) none (dst := (ahead c d : Thread nD τ)) (κ := K (ahead c d, 0))
      (d := flip d) (by rw [duties_bar]; exact Finset.mem_univ _) (show (sched (F := F) m).amount (barCell (ahead c d)) 0 (flip d) = 1 from rfl) () O rfl)
  isplitr; · iexact HI
  isplitl [HO]; · iexact HO
  isplitl [Ht]; · iexact Ht
  isplitl [Hs]
  · iapply (show iprop(∃ f, held c (ahead c d) fullShare f) ⊢ (sched (F := F) m).payload (barCell (ahead c d)) 0 (flip d) from
      Entails.of_eq (by show _ = barPay (ahead c d) (flip d); unfold barPay; rw [ahead_flip, behind_ahead]))
    iexists f; iexact Hs
  iexact HR

/-- Copy `d`: its share of the own slot and the peer's slot go, the credit of the departure comes. -/
theorem wp_copy (d : Fin 3) (n : Dev nD) (hn : n = ahead c d) (s r : DmaSem sig) (hs : s = sendS d) (hr : r = recvS d)
    {hsc : (slotM c : Memref sig (Dev.tc n : Thread nD τ).2.kind .vmem S768x384 .bf16).view.ref.isScScratch = false}
    {hsrc : (slotM c).view.WordExact} {hdst : (slotM c : Memref sig (Dev.tc n : Thread nD τ).2.kind .vmem S768x384 .bf16).view.WordExact}
    {hsem : DmaTarget.Typed .vmem (.dma r) (.remote (Dev.tc n : Thread nD τ) (slotM c) (.dma s) hsc)}
    {α : Type} {Q : α → sProp 𝕄} {k : PUnit → Prog (TpuEff nD τ sig (Elt F) Λ₀ .tc) α}
    (O O' : CellTallies nD τ sig Unit) (hO : O' = O + copyDue c d) (W : Waits sig Unit) :
    iprop(invsAt m K c d ∗ marksAt c d ∗ owes (c : Thread nD τ) O' W ∗ dutyTok ER (sendCell c d) 0 0 ∗ dutyTok ER (recvCell (ahead c d) d) 0 0
        ∗ held c c (Transfers.shareTok fullShare 3 d) (gathered m) ∗ (∃ f, held (ahead c d) c fullShare f))
      ⊢ iprop(((cred (tallyAt (sendCell c d) () N) ∗ owes (c : Thread nD τ) O W) -∗ wp Idealize.ShloMosaic.frame (wpE (defs₀ (F := F)) 𝒱₀ (c : Thread nD τ) none) Set.univ (k ⟨⟩) Q)
          -∗ wp Idealize.ShloMosaic.frame (wpE (defs₀ (F := F)) 𝒱₀ (c : Thread nD τ) none) Set.univ
              (.op (.enqueueDma (slotM c) (.remote (Dev.tc n : Thread nD τ) (slotM c) (.dma s) hsc) (.dma r) hsrc hdst hsem) k) Q) := by
  subst hn hs hr
  unfold invsAt marksAt
  iintro ⟨⟨#HIs, -, -, #HIr⟩, ⟨-, #HRs, #HRr⟩, HO, Hts, Htr, Hown, ⟨%f, Hpeer⟩⟩
  ihave Hown := (Entails.of_eq (held_memref (F := F) c c _ _).symm) $$ Hown
  ihave Hpeer := (Entails.of_eq (held_memref (F := F) (ahead c d) c _ _).symm) $$ Hpeer
  iapply (Rounds.wp_send_pointsTo 𝒱₀ ER (sched m) (c : Thread nD τ) none (c' := (ahead c d : Thread nD τ)) (src := slotM c) (dst := slotM c) (sS := .dma (sendS d)) (sem := .dma (recvS d))
    (q := Transfers.shareTok fullShare 3 d) (fs := gathered m) (κ₁ := K (c, sendK d)) (κ₂ := K (ahead c d, recvK d))
    (r₁ := 0) (r₂ := 0) (d₁ := 0) (d₂ := 0) (fd := f)
    (by rw [duties_dma]; exact Finset.mem_singleton_self _) (by rw [duties_dma]; exact Finset.mem_singleton_self _)
    () () N (slot_credit c) (amount_dma m c (sendS d) 0) (amount_dma m (ahead c d) (recvS d) 0) O hO (W := W)
    (Entails.of_eq ((held_memref (F := F) c c _ _).trans (payload_send m c d 0).symm))
    (Entails.of_eq (((held_memref (F := F) (ahead c d) c _ _).trans (pointsTo_congr (copy_slot m c f))).trans
      (by rw [payload_recv]; unfold recvPay; rw [behind_ahead]; rfl))))
  isplitr; · iexact HIs
  isplitr; · iexact HIr
  isplitl [Hown]; · iexact Hown
  isplitl [Hpeer]; · iexact Hpeer
  isplitl [HO]; · iexact HO
  isplitl [Hts]; · iexact Hts
  isplitr; · iexact HRs
  isplitl [Htr]; · iexact Htr
  iexact HRr

/-- The wait for arrival `d`: the slot filled. -/
theorem wp_arrival (d : Fin 3) (r : DmaSem sig) (hr : r = recvS d) (x y : Dev nD) {hx : (slotM x).view.WordExact} {hy : (slotM y).view.WordExact}
    {α : Type} {Q : α → sProp 𝕄} {k : PUnit → Prog (TpuEff nD τ sig (Elt F) Λ₀ .tc) α} (W : Waits sig Unit) :
    iprop(invsAt m K c d ∗ cred (tallyAt (recvCell c d) () N) ∗ owes (c : Thread nD τ) 0 W ∗ atPos ER (recvCell c d) 0 ∅ 0)
      ⊢ iprop(((owes (c : Thread nD τ) 0 (insert (.dma (recvS d), ()) W) ∗ atPos ER (recvCell c d) (0 + 1) ∅ 0 ∗ held c (behind c d) fullShare (gathered m))
              -∗ wp Idealize.ShloMosaic.frame (wpE (defs₀ (F := F)) 𝒱₀ (c : Thread nD τ) none) Set.univ (k ⟨⟩) Q)
          -∗ wp Idealize.ShloMosaic.frame (wpE (defs₀ (F := F)) 𝒱₀ (c : Thread nD τ) none) Set.univ (.op (.waitDma2 r (slotM x) (slotM y) hx hy) k) Q) := by
  subst hr
  unfold invsAt
  iintro ⟨⟨-, #HI, -, -⟩, Hc, HO, Ha⟩ Hk
  iapply (Rounds.wp_wait_rest_token 𝒱₀ ER (sched m) (c : Thread nD τ) none (κ := K (c, recvK d))
      (wpE_waitDma2_eq 𝒱₀ (c : Thread nD τ) none Set.univ) (Set.mem_univ _) () (O := 0) (W := W) (R := 0) (m := 0) (T := ∅)
      (by rw [Nat.zero_add, expect_dma]; exact slot_credit y)) $$ [Hc HO Ha]
  · isplitr; · iexact HI
    isplitl [Hc]; · rw [slot_credit]; iexact Hc
    isplitl [HO]; · iexact HO
    isplitr; · rw [MayWait_zero]; iempintro
    iexact Ha
  iintro ⟨HO, Ha, -, Hp⟩
  ihave Hp := (Entails.of_eq (rest_recv m c d)) $$ Hp
  iapply Hk
  isplitl [HO]; · iexact HO
  isplitl [Ha]; · iexact Ha
  unfold recvPay; iexact Hp

/-- The wait for departure `d`: its share of the own slot back. -/
theorem wp_departure (d : Fin 3) (r : DmaSem sig) (hr : r = sendS d) (x y : Dev nD) {hx : (slotM x).view.WordExact} {hy : (slotM y).view.WordExact}
    {α : Type} {Q : α → sProp 𝕄} {k : PUnit → Prog (TpuEff nD τ sig (Elt F) Λ₀ .tc) α} (W : Waits sig Unit) :
    iprop(invsAt m K c d ∗ cred (tallyAt (sendCell c d) () N) ∗ owes (c : Thread nD τ) 0 W ∗ atPos ER (sendCell c d) 0 ∅ 0)
      ⊢ iprop(((owes (c : Thread nD τ) 0 (insert (.dma (sendS d), ()) W) ∗ atPos ER (sendCell c d) (0 + 1) ∅ 0 ∗ held c c (Transfers.shareTok fullShare 3 d) (gathered m))
              -∗ wp Idealize.ShloMosaic.frame (wpE (defs₀ (F := F)) 𝒱₀ (c : Thread nD τ) none) Set.univ (k ⟨⟩) Q)
          -∗ wp Idealize.ShloMosaic.frame (wpE (defs₀ (F := F)) 𝒱₀ (c : Thread nD τ) none) Set.univ (.op (.waitDma2 r (slotM x) (slotM y) hx hy) k) Q) := by
  subst hr
  unfold invsAt
  iintro ⟨⟨#HI, -, -, -⟩, Hc, HO, Ha⟩ Hk
  iapply (Rounds.wp_wait_rest_token 𝒱₀ ER (sched m) (c : Thread nD τ) none (κ := K (c, sendK d))
      (wpE_waitDma2_eq 𝒱₀ (c : Thread nD τ) none Set.univ) (Set.mem_univ _) () (O := 0) (W := W) (R := 0) (m := 0) (T := ∅)
      (by rw [Nat.zero_add, expect_dma]; exact slot_credit y)) $$ [Hc HO Ha]
  · isplitr; · iexact HI
    isplitl [Hc]; · rw [slot_credit]; iexact Hc
    isplitl [HO]; · iexact HO
    isplitr; · rw [MayWait_zero]; iempintro
    iexact Ha
  iintro ⟨HO, Ha, -, Hp⟩
  ihave Hp := (Entails.of_eq (rest_send m c d)) $$ Hp
  iapply Hk
  isplitl [HO]; · iexact HO
  isplitl [Ha]; · iexact Ha
  unfold sendPay; iexact Hp

/-- The DMA cells of pair `d`, their round over, give their counters back at zero. -/
theorem close_pair (d : Fin 3) :
    iprop(invsAt m K c d ∗ atPos ER (sendCell c d) (0 + 1) ∅ 0 ∗ atPos ER (recvCell c d) (0 + 1) ∅ 0)
      ⊢ |={Set.univ}=> iprop(semVal (sendCell c d) 0 ∗ semVal (recvCell c d) 0 : sProp 𝕄) := by
  unfold invsAt
  iintro ⟨⟨#HIs, #HIr, -, -⟩, Hs, Hr⟩
  imod (Rounds.cell_close ER (sched m) (Set.mem_univ (K (c, sendK d))) (fun h => h) (R := 0 + 1) (duties_later m (sendCell c d))) $$ [Hs] with Hzs
  · isplitr; · iexact HIs
    iexact Hs
  imod (Rounds.cell_close ER (sched m) (Set.mem_univ (K (c, recvK d))) (fun h => h) (R := 0 + 1) (duties_later m (recvCell c d))) $$ [Hr] with Hzr
  · isplitr; · iexact HIr
    iexact Hr
  imodintro
  isplitl [Hzs] <;> iassumption

end Steps

end Cert.Gather

end
-- ==== Proof.Body.lean ====
/-
  The kernel's body on any device, run once symbolically.
-/
module

public import proofs.«01_k».proof.Proof.Steps

@[expose] public section

set_option maxRecDepth 16384

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, the names given; -/
def bodyPre (K : Dev nD × Fin 7 → ℕ) (c : Dev nD) : sProp 𝕄 :=
  iprop(ghost m K c ∗ credits c ∗ levAts L lv ∗ (∃ f : Buf (Elt F) ((c : Thread nD τ).loc cc0_scratch0), ((c : Thread nD τ).loc cc0_scratch0) ↦{fullShare} f)
    ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

/-- what it leaves. -/
def bodyPost (c : Dev nD) : sProp 𝕄 :=
  iprop(Φ₁ m c ∗ (dats m 0 c).owesAt () t0_0.succ ∗ stg c cc0_stg0_0 (shard m c) ∗ stg c cc0_stg1_0 (right m c) ∗ stg c cc0_stg2_0 (product m c))

theorem zeros : (![0, 0] : Fin 2 → Nat) = fun _ => 0 := funext fun a => by fin_cases a <;> rfl
theorem read_shard (f : (cc0_stg0_0 : Ref sig .tc).ty.Contents (Elt F)) :
    aM.view.readAt (Elt F) (Rect.unit (s := S768x384) ![0, 0] S768x384.size inb_S768x384_S768x384_0_0).toLoadRect f = f :=
  Memref.readAt_unit_zero (Elt F) cc0_stg0_0 zeros _ f
theorem read_right (f : (cc0_stg1_0 : Ref sig .tc).ty.Contents (Elt F)) :
    bM.view.readAt (Elt F) (Rect.unit (s := S384x768) ![0, 0] S384x768.size inb_S384x768_S384x768_0_0).toLoadRect f = f :=
  Memref.readAt_unit_zero (Elt F) cc0_stg1_0 zeros _ f

theorem off4_0 (c : Dev nD) : k0_off4 c 1#32 = ![(behind c 0).val, 0, 0] := off4_eq c 0
theorem off4_1 (c : Dev nD) : k0_off4 c 2#32 = ![(behind c 1).val, 0, 0] := off4_eq c 1
theorem off4_2 (c : Dev nD) : k0_off4 c 3#32 = ![(behind c 2).val, 0, 0] := off4_eq c 2
theorem off5_0 (c : Dev nD) : k0_off5 c 1#32 = ![768 * (behind c 0).val, 0] := off5_eq c 0
theorem off5_1 (c : Dev nD) : k0_off5 c 2#32 = ![768 * (behind c 1).val, 0] := off5_eq c 1
theorem off5_2 (c : Dev nD) : k0_off5 c 3#32 = ![768 * (behind c 2).val, 0] := off5_eq c 2

set_option maxHeartbeats 4000000 in
/-- The body on any device `c`, one step lemma per operation in program order. -/
theorem sound_body (K : Dev nD × Fin 7 → ℕ) (c : Dev nD) (Kt : PUnit → sProp 𝕄) :
    iprop(bodyPre m K c ∗ (bodyPost m c -∗ Kt ⟨⟩))
      ⊢ wp Idealize.ShloMosaic.frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold bodyPre ghost credits
  iintro ⟨⟨⟨#HIb, ⟨#HI0, #HI1, #HI2⟩, ⟨#HM0, #HM1, #HM2⟩, HaB, ⟨Hp0, Hp1, Hp2⟩, ⟨Ht0, Ht1, Ht2⟩⟩, ⟨HcB, Hc0, Hc1, Hc2⟩, #Hlev, ⟨%f0, Hscr⟩,
    Ho, ⟨%d0, %g0, %hg0, HA⟩, ⟨%d1, %g1, %hg1, HB⟩, ⟨%d2, %g2, %hg2, Hout⟩⟩, Hk⟩
  have hA : g0 = shard m c := by rw [hg0]; unfold Dat.before; rw [if_pos (show (cfg0.win (0 : Fin 3)).fetch t0_0 = true from rfl)]; rfl
  have hB : g1 = right m c := by rw [hg1]; unfold Dat.before; rw [if_pos (show (cfg0.win (1 : Fin 3)).fetch t0_0 = true from rfl)]; rfl
  subst hA hB
  unfold Dat.owesAt Pipeline.owesWithin
  icases Ho with ⟨%W, %hW, HO⟩
  rw [show (dats m 0 c).owed t0_0.castSucc = allDue c from rfl]
  unfold posAt toksAt
  icases Hp0 with ⟨HaS0, HaV0⟩
  icases Hp1 with ⟨HaS1, HaV1⟩
  icases Hp2 with ⟨HaS2, HaV2⟩
  icases Ht0 with ⟨HtB0, HtS0, HtV0⟩
  icases Ht1 with ⟨HtB1, HtS1, HtV1⟩
  icases Ht2 with ⟨HtB2, HtS2, HtV2⟩
  ihave Hscr := (Entails.of_eq (slots_out (F := F) c c f0)) $$ Hscr
  icases Hscr with ⟨Hown, Hs0, Hs1, Hs2⟩
  -- the three ready signals
  unfold allDue
  iapply (wp_ready m K c 0 _ (dev1_eq c) (copiesDue c + unitDue c 2 + unitDue c 1) W f0) $$ [HO HtB0 Hs0]
  · isplitr; · iexact HI0
    isplitr; · iexact HM0
    isplitl [HO]; · iexact HO
    isplitl [HtB0] <;> iassumption
  iintro HO
  iapply (wp_ready m K c 1 _ (dev2_eq c) (copiesDue c + unitDue c 2) W f0) $$ [HO HtB1 Hs1]
  · isplitr; · iexact HI1
    isplitr; · iexact HM1
    isplitl [HO]; · iexact HO
    isplitl [HtB1] <;> iassumption
  iintro HO
  iapply (wp_ready m K c 2 _ (dev3_eq c) (copiesDue c) W f0) $$ [HO HtB2 Hs2]
  · isplitr; · iexact HI2
    isplitr; · iexact HM2
    isplitl [HO]; · iexact HO
    isplitl [HtB2] <;> iassumption
  iintro HO
  -- the wait for the three peers' signals: their slots for this device's rows
  iapply (Rounds.wp_wait_rest_token 𝒱₀ ER (sched m) (c : Thread nD τ) none (κ := K (c, 0))
      (wpE_semWait_eq 𝒱₀ (c : Thread nD τ) none Set.univ) (Set.mem_univ _) () (O := copiesDue c) (W := W) (R := 0) (m := 0) (T := ∅)
      (by rw [expect_bar]; decide)) $$ [HcB HO HaB]
  · isplitr; · iexact HIb
    isplitl [HcB]; · iexact HcB
    isplitl [HO]; · iexact HO
    isplitr; · iapply (mayWait_bar c); iexact Hlev
    iexact HaB
  iintro ⟨HO, HaB, -, Hpay⟩
  ihave Hpay := (Entails.of_eq (rest_bar m c)) $$ Hpay
  unfold barPay
  icases Hpay with ⟨Hd0, Hd1, Hd2⟩
  -- its own rows into its slot
  iapply (wp_load 𝒱₀ (c : Thread nD τ) none Set.univ (m := aM) (Finset.subset_univ _)) $$ HA; iintro HA
  rw [read_shard]
  unfold held
  iapply (wp_load 𝒱₀ (c : Thread nD τ) none Set.univ (m := gM) (in_slot (k0_off1_eq c) _)) $$ Hown; iintro Hown
  iapply (wp_store 𝒱₀ (c : Thread nD τ) none Set.univ (m := gM) (r := Rect.unit (s := S4x768x384) (k0_off1 c) S1x768x384.size (k0_off1_inb c)) (Mk := Finset.univ)
    (S := slot c) (f := f0) (le_of_eq ((View.set_slice_whole cc0_scratch0 (Rect.unit (s := S4x768x384) (k0_off1 c) S1x768x384.size (k0_off1_inb c))).trans (slot_rect (k0_off1_eq c) _)))) $$ Hown
  iintro Hown
  ihave Hown := (Entails.of_eq (stored m c (k0_off1_eq c) _ f0)) $$ Hown
  ihave Hown := (shares (F := F) c (gathered m)).1 $$ Hown
  icases Hown with ⟨Hkeep, Hq0, Hq1, Hq2⟩
  iapply (wp_load 𝒱₀ (c : Thread nD τ) none Set.univ (m := bM) (Finset.subset_univ _)) $$ HB; iintro HB
  rw [read_right]
  -- the three copies
  iapply (wp_copy m K c 0 _ (dev4_eq c) _ _ rfl rfl (copyDue c 2 + copyDue c 1) (copiesDue c) rfl (insert (.reg barS, ()) W)) $$ [HO HtS0 HtV0 Hq0 Hd0]
  · isplitr; · iexact HI0
    isplitr; · iexact HM0
    isplitl [HO]; · iexact HO
    isplitl [HtS0]; · iexact HtS0
    isplitl [HtV0]; · iexact HtV0
    isplitl [Hq0]; · iexact Hq0
    iexact Hd0
  iintro ⟨HcS0, HO⟩
  iapply (wp_copy m K c 1 _ (dev5_eq c) _ _ rfl rfl (copyDue c 2) _ rfl (insert (.reg barS, ()) W)) $$ [HO HtS1 HtV1 Hq1 Hd1]
  · isplitr; · iexact HI1
    isplitr; · iexact HM1
    isplitl [HO]; · iexact HO
    isplitl [HtS1]; · iexact HtS1
    isplitl [HtV1]; · iexact HtV1
    isplitl [Hq1]; · iexact Hq1
    iexact Hd1
  iintro ⟨HcS1, HO⟩
  iapply (wp_copy m K c 2 _ (dev6_eq c) _ _ rfl rfl 0 _ (zero_add _).symm (insert (.reg barS, ()) W)) $$ [HO HtS2 HtV2 Hq2 Hd2]
  · isplitr; · iexact HI2
    isplitr; · iexact HM2
    isplitl [HO]; · iexact HO
    isplitl [HtS2]; · iexact HtS2
    isplitl [HtV2]; · iexact HtV2
    isplitl [Hq2]; · iexact Hq2
    iexact Hd2
  iintro ⟨HcS2, HO⟩
  -- its own rows' product, the copies in flight
  unfold held
  iapply (wp_load 𝒱₀ (c : Thread nD τ) none Set.univ (m := gM) (in_slot (k0_off1_eq c) _)) $$ Hkeep; iintro Hkeep
  rw [read_gathered m (k0_off1_eq c)]
  iapply (wp_load 𝒱₀ (c : Thread nD τ) none Set.univ (m := oM) (Finset.subset_univ _)) $$ Hout; iintro Hout
  iapply (wp_store 𝒱₀ (c : Thread nD τ) none Set.univ (m := oM) (r := Rect.unit (s := S3072x768) (k0_off3 c) S768x768.size (k0_off3_inb c)) (Mk := Finset.univ) (Finset.subset_univ _)) $$ Hout; iintro Hout
  rw [show k0_pay3 (k0_pay2 (right m c)) (k0_pay1 (shard m c)) = block m c c from rfl, store_rows m c (k0_off3_eq c)]
  -- each peer's, as it arrives
  iapply (wp_arrival m K c 0 _ rfl c c (insert (.reg barS, ()) W)) $$ [Hc0 HO HaV0]
  · isplitr; · iexact HI0
    isplitl [Hc0]; · iexact Hc0
    isplitl [HO]; · iexact HO
    iexact HaV0
  iintro ⟨HO, HaV0, Hb0⟩
  unfold held
  iapply (wp_load 𝒱₀ (c : Thread nD τ) none Set.univ (m := gM) (in_slot (off4_0 c) _)) $$ Hb0; iintro Hb0
  rw [read_gathered m (off4_0 c)]
  iapply (wp_load 𝒱₀ (c : Thread nD τ) none Set.univ (m := oM) (Finset.subset_univ _)) $$ Hout; iintro Hout
  iapply (wp_store 𝒱₀ (c : Thread nD τ) none Set.univ (m := oM) (r := Rect.unit (s := S3072x768) (k0_off5 c 1#32) S768x768.size (k0_off5_inb c 0)) (Mk := Finset.univ) (Finset.subset_univ _)) $$ Hout; iintro Hout
  rw [show k0_pay4 (k0_pay2 (right m c)) (k0_pay1 (shard m (behind c 0))) = block m c (behind c 0) from rfl, store_rows m c (off5_0 c)]
  iapply (wp_arrival m K c 1 _ rfl c c _) $$ [Hc1 HO HaV1]
  · isplitr; · iexact HI1
    isplitl [Hc1]; · iexact Hc1
    isplitl [HO]; · iexact HO
    iexact HaV1
  iintro ⟨HO, HaV1, Hb1⟩
  unfold held
  iapply (wp_load 𝒱₀ (c : Thread nD τ) none Set.univ (m := gM) (in_slot (off4_1 c) _)) $$ Hb1; iintro Hb1
  rw [read_gathered m (off4_1 c)]
  iapply (wp_load 𝒱₀ (c : Thread nD τ) none Set.univ (m := oM) (Finset.subset_univ _)) $$ Hout; iintro Hout
  iapply (wp_store 𝒱₀ (c : Thread nD τ) none Set.univ (m := oM) (r := Rect.unit (s := S3072x768) (k0_off5 c 2#32) S768x768.size (k0_off5_inb c 1)) (Mk := Finset.univ) (Finset.subset_univ _)) $$ Hout; iintro Hout
  rw [show k0_pay5 (k0_pay2 (right m c)) (k0_pay1 (shard m (behind c 1))) = block m c (behind c 1) from rfl, store_rows m c (off5_1 c)]
  iapply (wp_arrival m K c 2 _ rfl c c _) $$ [Hc2 HO HaV2]
  · isplitr; · iexact HI2
    isplitl [Hc2]; · iexact Hc2
    isplitl [HO]; · iexact HO
    iexact HaV2
  iintro ⟨HO, HaV2, Hb2⟩
  unfold held
  iapply (wp_load 𝒱₀ (c : Thread nD τ) none Set.univ (m := gM) (in_slot (off4_2 c) _)) $$ Hb2; iintro Hb2
  rw [read_gathered m (off4_2 c)]
  iapply (wp_load 𝒱₀ (c : Thread nD τ) none Set.univ (m := oM) (Finset.subset_univ _)) $$ Hout; iintro Hout
  iapply (wp_store 𝒱₀ (c : Thread nD τ) none Set.univ (m := oM) (r := Rect.unit (s := S3072x768) (k0_off5 c 3#32) S768x768.size (k0_off5_inb c 2)) (Mk := Finset.univ) (Finset.subset_univ _)) $$ Hout; iintro Hout
  rw [show k0_pay6 (k0_pay2 (right m c)) (k0_pay1 (shard m (behind c 2))) = block m c (behind c 2) from rfl, store_rows m c (off5_2 c)]
  rw [store_all]
  -- the copies' departures
  iapply (wp_departure m K c 0 _ rfl c c _) $$ [HcS0 HO HaS0]
  · isplitr; · iexact HI0
    isplitl [HcS0]; · iexact HcS0
    isplitl [HO]; · iexact HO
    iexact HaS0
  iintro ⟨HO, HaS0, Hq0⟩
  iapply (wp_departure m K c 1 _ rfl c c _) $$ [HcS1 HO HaS1]
  · isplitr; · iexact HI1
    isplitl [HcS1]; · iexact HcS1
    isplitl [HO]; · iexact HO
    iexact HaS1
  iintro ⟨HO, HaS1, Hq1⟩
  iapply (wp_departure m K c 2 _ rfl c c _) $$ [HcS2 HO HaS2]
  · isplitr; · iexact HI2
    isplitl [HcS2]; · iexact HcS2
    isplitl [HO]; · iexact HO
    iexact HaS2
  iintro ⟨HO, HaS2, Hq2⟩
  -- the semaphores close
  imod (Rounds.cell_close ER (sched m) (Set.mem_univ (K (c, 0))) (fun h => h) (R := 0 + 1) (duties_later m (barCell c))) $$ [HaB] with HzB
  · isplitr; · iexact HIb
    iexact HaB
  imod (close_pair m K c 0) $$ [HaS0 HaV0] with ⟨HzS0, HzV0⟩
  · isplitr; · iexact HI0
    isplitl [HaS0] <;> iassumption
  imod (close_pair m K c 1) $$ [HaS1 HaV1] with ⟨HzS1, HzV1⟩
  · isplitr; · iexact HI1
    isplitl [HaS1] <;> iassumption
  imod (close_pair m K c 2) $$ [HaS2 HaV2] with ⟨HzS2, HzV2⟩
  · isplitr; · iexact HI2
    isplitl [HaS2] <;> iassumption
  ihave Hown := (shares (F := F) c (gathered m)).2 $$ [Hkeep Hq0 Hq1 Hq2]
  · isplitl [Hkeep]; · unfold held; iexact Hkeep
    isplitl [Hq0]; · iexact Hq0
    isplitl [Hq1] <;> iassumption
  rw [wp_ret]; imodintro
  iapply Hk
  unfold bodyPost Φ₁ spent Dat.owesAt Pipeline.owesWithin
  rw [show (dats m 0 c).owed t0_0.succ = 0 from rfl, slots_in (F := F) c c]
  isplitl [Hown Hb0 Hb1 Hb2 HzB HzS0 HzS1 HzS2 HzV0 HzV1 HzV2]
  · isplitl [Hown Hb0 Hb1 Hb2]
    · isplitl [Hown]; · iexact Hown
      unfold held
      isplitl [Hb0]; · iexact Hb0
      isplitl [Hb1]; · iexact Hb1
      iexact Hb2
    isplitl [HzB]; · iexact HzB
    isplitl [HzS0 HzS1 HzS2]
    · isplitl [HzS0]; · iexact HzS0
      isplitl [HzS1] <;> iassumption
    isplitl [HzV0]; · iexact HzV0
    isplitl [HzV1] <;> iassumption
  isplitl [HO]
  · iexists _
    isplitr; swap; · iexact HO
    ipureintro; exact fun _ _ => Or.inl trivial
  isplitl [HA]
  · iexists _; isplitr; swap; · iexact HA
    ipureintro; rfl
  isplitl [HB]
  · iexists _; isplitr; swap; · iexact HB
    ipureintro; rfl
  iexists _; isplitr; swap; · iexact Hout
  ipureintro; rfl

/-- The launch theorem's obligation for the body. -/
theorem body_obligation (c : Dev nD) : BodyObligation (dats (F := F) m 0 c) (defs₀ (F := F)) 𝒱₀ () Set.univ := fun t => by
  rw [fin_N0 t, bigSep_W0, bigSep_W0]
  simp only [owns_whole_eq]
  show iprop(Φ₀ m c ∗ (dats m 0 c).owesAt () t0_0.castSucc
      ∗ (∃ d, stg c cc0_stg0_0 ((dats m 0 c).before (0 : Fin 3) t0_0 d)) ∗ (∃ d, stg c cc0_stg1_0 ((dats m 0 c).before (1 : Fin 3) t0_0 d))
      ∗ (∃ d, stg c cc0_stg2_0 ((dats m 0 c).before (2 : Fin 3) t0_0 d)))
    ⊢ wp Idealize.ShloMosaic.frame (wpE (defs₀ (F := F)) 𝒱₀ c none) Set.univ
        (cc0_body (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) cc0_scratch1 cc0_scratch2) (fun _ => bodyPost m c)
  unfold Φ₀ start
  iintro ⟨⟨⟨⟨%K, Hg⟩, Hcr, Hlev⟩, Hscr⟩, Ho, HA, HB, Hout⟩
  iapply (sound_body m K c fun _ => bodyPost m c)
  unfold bodyPre
  isplitr []
  · isplitl [Hg]; · iexact Hg
    isplitl [Hcr]; · iexact Hcr
    isplitl [Hlev]; · iexact Hlev
    isplitl [Hscr]; · iexact Hscr
    isplitl [Ho]; · iexact Ho
    isplitl [HA]; · iexact HA
    isplitl [HB] <;> iassumption
  · iintro H; iexact H

end Cert.Gather

end
-- ==== Proof.Launched.lean ====
/-
  The launch: the invariants and tokens minted and dealt, and the run of the program from any memory.
-/
module

public import proofs.«01_k».proof.Proof.Body
public import Idealize.ShloMosaic.Lib.Pipeline.CollectiveSegs
public import Idealize.ShloMosaic.Lib.Pipeline.ValueKit

@[expose] public section

set_option maxRecDepth 16384

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

theorem ownSemFacts : Pipeline.OwnSemFacts cfg0.spec osem := by decide

theorem share_eq (c : Dev nD) (w : Fin cfg0.W) : (dats m 0 c).share w = fullShare := by unfold Dat.share; split <;> rfl

theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## What the launch mints -/

def allCells : Finset (GSem nD τ sig) := Finset.univ.map ⟨cell, cell_injective⟩

/-- The duty tokens of a device's own cells: kind (barrier, departure, arrival) and number. -/
def tokOf : Dev nD × Fin 3 × Fin 3 → GSem nD τ sig × ℕ × Fin 3
  | (c, ⟨0, _⟩, d) => (barCell c, 0, d)
  | (c, ⟨1, _⟩, d) => (sendCell c d, 0, 0)
  | (c, ⟨_ + 2, _⟩, d) => (recvCell c d, 0, 0)

/-- Kind and number can be read off a token, apart from its device. -/
theorem tokOf_kind : Function.Injective fun kd : Fin 3 × Fin 3 => ((tokOf (0, kd)).1.2, (tokOf (0, kd)).2.2) := by decide
theorem tokOf_local : ∀ (c : Dev nD) (kd : Fin 3 × Fin 3), ((tokOf (c, kd)).1.2, (tokOf (c, kd)).2.2) = ((tokOf (0, kd)).1.2, (tokOf (0, kd)).2.2) := by
  rintro c ⟨k, d⟩; fin_cases k <;> rfl
theorem tokOf_device : ∀ (c : Dev nD) (kd : Fin 3 × Fin 3), (tokOf (c, kd)).1.1.1 = c := by
  rintro c ⟨k, d⟩; fin_cases k <;> rfl
theorem tokOf_injective : Function.Injective tokOf := by
  rintro ⟨c, kd⟩ ⟨c', kd'⟩ h
  have hc : c = c' := by rw [← tokOf_device c kd, ← tokOf_device c' kd', h]
  have hk : kd = kd' := tokOf_kind (by show (_, _) = (_, _); rw [← tokOf_local c kd, ← tokOf_local c' kd', h])
  rw [hc, hk]
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The tokens of device `c`'s own cells. -/
def toks (c : Dev nD) : sProp 𝕄 :=
  iprop((bigSep Finset.univ fun d : Fin 3 => dutyTok ER (barCell c) 0 d) ∗ (bigSep Finset.univ fun d : Fin 3 => dutyTok ER (sendCell c d) 0 0)
    ∗ bigSep Finset.univ fun d : Fin 3 => dutyTok ER (recvCell c d) 0 0)

/-- What the launch deals device `c`, -/
def G (c : Dev nD) : sProp 𝕄 :=
  iprop((bigSep Finset.univ fun k : Fin 7 => roundState ER (sched m) (cell (c, k)) 0)
    ∗ (bigSep Finset.univ fun k : Fin 7 => iprop(atPos ER (cell (c, k)) 0 ∅ 0 ∗ reached ER (cell (c, k)) 0)) ∗ toks c)
/-- and what the step over all devices makes of it. -/
def G' (c : Dev nD) : sProp 𝕄 := iprop(∃ K, ghost m K c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 7 => Φ (cell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_prod, bigSep_three]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores at zero, and the invariants over them -/

theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (recvCell c 0) 0 ∗ semVal (recvCell c 1) 0 ∗ semVal (recvCell c 2) 0) := by
  rw [Pipeline.ownSems0_eq_of_list c osem [0, 1, 2, 3, 4, 5] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores and the barrier's are all its cells'. -/
theorem sems_in (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (cell (c, k)) 0 : sProp 𝕄) := by
  rw [ownSems0_eq, unscopedSems0_eq, bigSep_seven]
  iintro ⟨Ho, HB⟩
  isplitl [HB]; · iexact HB
  iexact Ho

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (cell (c, k))))
          ∗ (bigSep Finset.univ fun k => iprop(atPos ER (cell (c, k)) 0 ∅ 0 ∗ reached ER (cell (c, k)) 0)) ∗ toks c) := by
  unfold G
  iintro ⟨Hos, Hus, Hst, Hat, Htok⟩
  ihave Hv := (sems_in (F := F) c) $$ [Hos Hus]
  · isplitl [Hos] <;> iassumption
  imod (show iprop((bigSep Finset.univ fun k : Fin 7 => semVal (cell (c, k)) 0) ∗ bigSep Finset.univ fun k : Fin 7 => roundState ER (sched m) (cell (c, k)) 0)
      ⊢ (|={Set.univ}=> bigSep Finset.univ fun k => iprop(∃ κ : ℕ, cellInv ER (sched m) κ (cell (c, k))) : sProp 𝕄) from by
        rw [← bigSep_sep']
        exact (bigSep_mono fun k _ => (Rounds.body_intro ER (sched m) (cell (c, k))).trans inv_alloc).trans (bigSep_fupd _ _)) $$ [Hv Hst] with Hinv
  · isplitl [Hv] <;> iassumption
  imodintro
  isplitl [Hinv]; · iexact Hinv
  isplitl [Hat] <;> iassumption

/-- All invariants and all marks. -/
def records (K : Dev nD × Fin 7 → ℕ) : sProp 𝕄 :=
  iprop((bigSep Finset.univ fun x : Dev nD × Fin 7 => cellInv ER (sched m) (K x) (cell x)) ∗ bigSep Finset.univ fun x : Dev nD × Fin 7 => reached ER (cell x) 0)

instance records_persistent (K : Dev nD × Fin 7 → ℕ) : BI.Persistent (records m K) := by unfold records; infer_instance

theorem inv_of (K : Dev nD × Fin 7 → ℕ) (x : Dev nD × Fin 7) : records m K ⊢ cellInv ER (sched m) (K x) (cell x) := by
  unfold records
  iintro ⟨#H, -⟩
  iapply (show (bigSep Finset.univ fun x : Dev nD × Fin 7 => (cellInv ER (sched m) (K x) (cell x) : sProp 𝕄)) ⊢ cellInv ER (sched m) (K x) (cell x) from
    bigSep_elim (Finset.mem_univ x))
  iexact H
theorem mark_of (K : Dev nD × Fin 7 → ℕ) (x : Dev nD × Fin 7) : records m K ⊢ reached ER (cell x) 0 := by
  unfold records
  iintro ⟨-, #H⟩
  iapply (show (bigSep Finset.univ fun x : Dev nD × Fin 7 => (reached ER (cell x) 0 : sProp 𝕄)) ⊢ reached ER (cell x) 0 from bigSep_elim (Finset.mem_univ x))
  iexact H

theorem invs_of (K : Dev nD × Fin 7 → ℕ) (c : Dev nD) (d : Fin 3) : records m K ⊢ invsAt m K c d := by
  unfold invsAt
  iintro #H
  isplitr; · iapply (inv_of m K (c, sendK d)); iexact H
  isplitr; · iapply (inv_of m K (c, recvK d)); iexact H
  isplitr; · iapply (inv_of m K (ahead c d, 0)); iexact H
  iapply (inv_of m K (ahead c d, recvK d)); iexact H
theorem marks_of (K : Dev nD × Fin 7 → ℕ) (c : Dev nD) (d : Fin 3) : records m K ⊢ marksAt c d := by
  unfold marksAt
  iintro #H
  isplitr; · iapply (mark_of m K (ahead c d, 0)); iexact H
  isplitr; · iapply (mark_of m K (c, sendK d)); iexact H
  iapply (mark_of m K (ahead c d, recvK d)); iexact H

/-- What stays with device `c`: its positions, and the tokens of the duties it pays. -/
def kept (c : Dev nD) : sProp 𝕄 :=
  iprop((bigSep Finset.univ fun k : Fin 7 => atPos ER (cell (c, k)) 0 ∅ 0) ∗ bigSep Finset.univ fun d : Fin 3 => toksAt c d)

theorem ghost_intro (K : Dev nD × Fin 7 → ℕ) (c : Dev nD) : iprop(records m K ∗ kept c) ⊢ G' m c := by
  unfold kept G' ghost
  rw [bigSep_seven, bigSep_three]
  iintro ⟨#H, ⟨Hb, H1, H2, H3, H4, H5, H6⟩, Ht⟩
  iexists K
  isplitr; · iapply (inv_of m K (c, 0)); iexact H
  isplitr
  · isplitr; · iapply (invs_of m K c 0); iexact H
    isplitr; · iapply (invs_of m K c 1); iexact H
    iapply (invs_of m K c 2); iexact H
  isplitr
  · isplitr; · iapply (marks_of m K c 0); iexact H
    isplitr; · iapply (marks_of m K c 1); iexact H
    iapply (marks_of m K c 2); iexact H
  isplitl [Hb]; · iexact Hb
  isplitl [H1 H2 H3 H4 H5 H6]
  · unfold posAt
    isplitl [H1 H4]
    · isplitl [H1]; · iexact H1
      iexact H4
    isplitl [H2 H5]
    · isplitl [H2]; · iexact H2
      iexact H5
    isplitl [H3]; · iexact H3
    iexact H6
  iexact Ht

/-- A signal's cell and duty, from its sender and number, and back. -/
def toBar : Dev nD × Fin 3 ≃ Dev nD × Fin 3 where
  toFun x := (ahead x.1 x.2, flip x.2)
  invFun x := (ahead x.1 x.2, flip x.2)
  left_inv := by decide
  right_inv := by decide
/-- A copy's target and number, from its sender and number. -/
def toRecv : Dev nD × Fin 3 ≃ Dev nD × Fin 3 where
  toFun x := (ahead x.1 x.2, x.2)
  invFun x := (behind x.1 x.2, x.2)
  left_inv := by decide
  right_inv := by decide

/-- The tokens, dealt to the devices that pay with them. -/
theorem deal : (bigSep Finset.univ fun c : Dev nD => (toks c : sProp 𝕄)) ⊢ bigSep Finset.univ fun c : Dev nD => bigSep Finset.univ fun d : Fin 3 => toksAt c d := by
  unfold toks toksAt
  simp only [bigSep_sep']
  rw [← bigSep_univ_prod (fun x : Dev nD × Fin 3 => (dutyTok ER (barCell x.1) 0 x.2 : sProp 𝕄)),
    ← bigSep_univ_prod (fun x : Dev nD × Fin 3 => (dutyTok ER (recvCell x.1 x.2) 0 0 : sProp 𝕄)),
    ← bigSep_univ_prod (fun x : Dev nD × Fin 3 => (dutyTok ER (barCell (ahead x.1 x.2)) 0 (flip x.2) : sProp 𝕄)),
    ← bigSep_univ_prod (fun x : Dev nD × Fin 3 => (dutyTok ER (recvCell (ahead x.1 x.2) x.2) 0 0 : sProp 𝕄)),
    bigSep_univ_equiv toBar (fun x : Dev nD × Fin 3 => (dutyTok ER (barCell x.1) 0 x.2 : sProp 𝕄)),
    bigSep_univ_equiv toRecv (fun x : Dev nD × Fin 3 => (dutyTok ER (recvCell x.1 x.2) 0 0 : sProp 𝕄))]
  exact BI.Entails.refl _

/-- A persistent fact goes to every member. -/
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (cell (c, k))))
          ∗ (bigSep Finset.univ fun k => iprop(atPos ER (cell (c, k)) 0 ∅ 0 ∗ reached ER (cell (c, k)) 0)) ∗ toks c) : sProp 𝕄)
      ⊢ bigSep Finset.univ (G' m) := by
  simp only [bigSep_sep']
  rw [← bigSep_univ_prod (fun x : Dev nD × Fin 7 => iprop(∃ κ : ℕ, cellInv ER (sched m) κ (cell x))),
    ← bigSep_univ_prod (fun x : Dev nD × Fin 7 => (reached ER (cell x) 0 : sProp 𝕄))]
  iintro ⟨HI, ⟨Hat, #HR⟩, Htok⟩
  ihave HK := (BI.bigSep_exists_pi Finset.univ (fun (x : Dev nD × Fin 7) (κ : ℕ) => (cellInv ER (sched m) κ (cell x) : sProp 𝕄))) $$ HI
  icases HK with ⟨%K, #HI⟩
  ihave Htk := (deal (F := F)) $$ Htok
  iapply (spread (R := records m K) fun c _ => ghost_intro m K c)
  isplitr
  · unfold records; isplitl; · iexact HI
    iexact HR
  · unfold kept
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The side conditions -/

/-- The credits of a device's four awaited cells are among its launch credit. -/
theorem credits_intro (c : Dev nD) : (Pipeline.launchCred allDue c : sProp 𝕄) ⊢ credits c := by
  unfold Pipeline.launchCred credits
  rw [← launch_bar c, ← launch_recv c 0, ← launch_recv c 1, ← launch_recv c 2,
    bigSep_univ_at _ (SemLoc.reg barS)]
  refine sep_mono_right ?_
  have h0 : (SemLoc.dma (recvS 0) : SemLoc sig) ∈ Finset.univ.erase (SemLoc.reg barS) := by decide
  have h1 : (SemLoc.dma (recvS 1) : SemLoc sig) ∈ (Finset.univ.erase (SemLoc.reg barS)).erase (SemLoc.dma (recvS 0)) := by decide
  have h2 : (SemLoc.dma (recvS 2) : SemLoc sig) ∈ ((Finset.univ.erase (SemLoc.reg barS)).erase (SemLoc.dma (recvS 0))).erase (SemLoc.dma (recvS 1)) := by decide
  rw [bigSep_erase h0, bigSep_erase h1]
  exact sep_mono_right (sep_mono_right (bigSep_elim h2))

theorem start_intro (c : Dev nD) :
    iprop(Pipeline.unscopedRestP Pipeline.Prefetch.none cfg0.spec c (fun b => m ((c : Thread nD τ).loc b)) ∗ levAts L lv
        ∗ Pipeline.launchCred allDue c ∗ prngReg c (ρ c) ∗ G' m c)
      ⊢ |={Set.univ}=> iprop(start m c ∗ emp) := by
  iintro ⟨-, Hlev, Hcr, -, HG⟩
  ihave Hc := (credits_intro (F := F) c) $$ Hcr
  imodintro
  unfold start G'
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ spent
  iintro ⟨Hr, HzB, ⟨H0, H1, H2⟩, Hv⟩
  isplitl [HzB]; · iexact HzB
  isplitl [H0 H1 H2 Hv]
  · isplitl [H0]; · iexact H0
    isplitl [H1]; · iexact H1
    isplitl [H2]; · iexact H2
    iexact Hv
  iexists _; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- Every window's array at the end as the proof data give it. -/
def Final : PUnit × MemSt nD τ sig (Elt F) → Prop := fun r =>
  ∀ c : Dev nD, ∀ w : Fin cfg0.W, r.2.mem ((cfg0.win w).arr.view.loc (c : Thread nD τ)) = (dats m 0 c).arrAt w cfg0.N

/-- On the four devices, from any memory with zero counters, every weakly fair execution terminates, with every
    window's array as the proof data give it and every semaphore counter at zero. -/
theorem run_main : θ_run defs (onTc (τ := τ) (main (F := F))) (s₀ m ρ) (fun r => Final m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := allDue) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result's array at the end is the product on that device; -/
theorem end_out (c : Dev nD) : (dats (F := F) m 0 c).arrAt (2 : Fin 3) cfg0.N = (product m c : Buf (Elt F) ((c : Thread nD τ).loc main_v1)) :=
  (dats (F := F) m 0 c).arrAt_eq_of_after_last (2 : Fin 3) t0_0 (by decide +kernel) _ fun j => rfl
/-- the arguments' arrays hold what they held. -/
theorem end_arg0 (c : Dev nD) : (dats (F := F) m 0 c).arrAt (0 : Fin 3) cfg0.N = (m ((c : Thread nD τ).loc main_arg0) : Buf (Elt F) ((c : Thread nD τ).loc main_arg0)) :=
  (dats (F := F) m 0 c).arrAt_in (0 : Fin 3) rfl _
theorem end_arg1 (c : Dev nD) : (dats (F := F) m 0 c).arrAt (1 : Fin 3) cfg0.N = (m ((c : Thread nD τ).loc main_arg1) : Buf (Elt F) ((c : Thread nD τ).loc main_arg1)) :=
  (dats (F := F) m 0 c).arrAt_in (1 : Fin 3) rfl _

end Cert.Gather

end
-- ==== Proof.Refer.lean ====
/-
  The reference's run: one `dot_general` on one device, read at an index as the sum it is.
-/
module

public import proofs.«01_k».proof.Proof.Gen.ReferenceIdeal
public import Idealize.ShloMosaic.Lib.StableHlo.Run
public import Idealize.ShloMosaic.Lib.Pointwise
public import Idealize.ShloMosaic.Lib.Tactic
public import Idealize.ShloMosaic.Lib.Quiescent

@[expose] public section

set_option maxRecDepth 16384

noncomputable section

namespace Cert.Gather.Refer

open Cert.ReferenceIdeal Cert.ReferenceIdeal.Gen
open Idealize.ShloMosaic Idealize.ShloMosaic.TcCoe Idealize.ShloMosaic.StableHlo Idealize.SL.Sem

variable {F : FTy → Type} [FloatOps F]

/-- The program's one operation. -/
abbrev mult : List (HloOp τ sig (Elt F)) :=
  [ binary main_arg0 main_arg1 main_v0 ((fun l r => Host.dotGeneral dot_S3072x384_S384x768_S3072x768_1_0_0_1_n_n none l r) :
      (⟨S3072x384, .f32⟩ : BufTy).Contents (Elt F) → (⟨S384x768, .f32⟩ : BufTy).Contents (Elt F) → (⟨S3072x768, .f32⟩ : BufTy).Contents (Elt F)) ]

theorem main_mult (c : Dev nD) : main (F := F) c = seq mult := rfl
theorem no_refs : (Finset.univ.filter fun b : Ref sig .tc => b.isScoped) = ∅ := by decide
theorem no_sems : (Finset.univ.filter fun sm : SemLoc sig => sm.isScoped .tc) = ∅ := by decide
theorem mult_sub : (mult : List (HloOp τ sig (Elt F))).Forall fun op => op.bufs ⊆ tcRefs τ sig := binary_bufs_sub ..

/-- The product of the whole arrays, as the reference computes it. -/
def whole (A : S3072x384.Idx → Ideal .f32) (B : S384x768.Idx → Ideal .f32) : S3072x768.Idx → Ideal .f32 :=
  Host.dotGeneral dot_S3072x384_S384x768_S3072x768_1_0_0_1_n_n none A B

/-- An element of it: the sum over the 384 columns of `A` and rows of `B`. -/
theorem whole_apply (A : S3072x384.Idx → Ideal .f32) (B : S384x768.Idx → Ideal .f32) (r : Fin 3072) (n : Fin 768) :
    whole A B (ix2 r n) = ∑ k : Fin 384, A (ix2 r k) * B (ix2 k n) := by
  pointwise [whole]

/-- The run: the result array holds the product, the arguments what they held. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = whole (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (by after_results; rfl), (h c main_arg0).trans (by after_results),
      (h c main_arg1).trans (by after_results)⟩)
    (run_seq no_refs no_sems defs main (fun _ => mult) main_mult (fun _ => mult_sub) m ρ)

end Cert.Gather.Refer

end
-- ==== Proof.Value.lean ====
/-
  What the kernel leaves in exact arithmetic: every row block of the result is a block of the whole
  product, so the result is the reference's, on every device.
-/
module

public import proofs.«01_k».proof.Proof.Launched
public import proofs.«01_k».proof.Proof.Refer
public import Idealize.ShloMosaic.Lib.Layout
public import Idealize.ShloMosaic.Lib.Pointwise

@[expose] public section

set_option maxRecDepth 16384

noncomputable section

namespace Cert.Gather

open Cert.KernelIdeal Cert.KernelIdeal.Gen
open Idealize.ShloMosaic Idealize.ShloMosaic.TcCoe Idealize.SL.Sem

/-- One row block of the result, from `B` and a device's rows of `A`. -/
def piece {F : FTy → Type} [FloatOps F] (B : Vec F S384x768 .f32) (A : Vec F S768x384 .f32) : FVec F S768x768 .f32 :=
  k0_pay3 (k0_pay2 B) (k0_pay1 A)

/-- One row block in exact arithmetic: the roundings to bf16 change nothing, the accumulator starts at zero. -/
theorem piece_apply (B : S384x768.Idx → Ideal .f32) (A : S768x384.Idx → Ideal .f32) (r : Fin 768) (n : Fin 768) :
    piece (F := Ideal) B A (ix2 r n) = ∑ k : Fin 384, A (ix2 r k) * B (ix2 k n) := by
  pointwise [piece, k0_pay3, k0_pay2, k0_pay1]

variable (m : (ℓ : Loc nD τ sig) → Buf (Elt Ideal) ℓ)

/-- The staged operands are the argument arrays: each window is the whole of its array. -/
theorem shard_eq (c : Dev nD) : shard m c = m ((c : Thread nD τ).loc main_arg0) := by
  funext i
  exact congrArg (m ((c : Thread nD τ).loc main_arg0)) (by funext a; fin_cases a <;> exact Fin.ext (by simp; rfl))
theorem right_eq (c : Dev nD) : right m c = m ((c : Thread nD τ).loc main_arg1) := by
  funext i
  exact congrArg (m ((c : Thread nD τ).loc main_arg1)) (by funext a; fin_cases a <;> exact Fin.ext (by simp; rfl))

/-- Where the devices' arguments are the blocks of `A` and copies of `B`, every device's result is `A @ B`. -/
theorem product_eq (A : Cert.ReferenceIdeal.S3072x384.Idx → Ideal .f32) (B : S384x768.Idx → Ideal .f32)
    (hA : ∀ c : Dev nD, m ((c : Thread nD τ).loc main_arg0) = Layout.block ⟨2, ![768, 384]⟩ ⟨2, ![3072, 384]⟩ 0 4 c A)
    (hB : ∀ c : Dev nD, m ((c : Thread nD τ).loc main_arg1) = B) (c : Dev nD) :
    product m c = Refer.whole A B := by
  funext i
  idx_vars i
  rw [Refer.whole_apply]
  show piece (F := Ideal) (right m c) (shard m _) (inRows (ix2 i0 i1)) = _
  rw [right_eq, shard_eq, hA, hB, show inRows (ix2 i0 i1) = ix2 (⟨i0.val % 768, Nat.mod_lt _ (by decide)⟩ : Fin 768) i1 from by
    funext a; fin_cases a <;> rfl, piece_apply]
  refine Finset.sum_congr rfl fun k _ => congrArg (· * B (ix2 k i1)) ?_
  rw [Layout.block_apply]
  refine congrArg A ?_
  funext a
  fin_cases a
  · exact Fin.ext (show i0.val / 768 * 768 + i0.val % 768 = i0.val by omega)
  · rfl

end Cert.Gather

end
-- ==== Proof.Claims.lean ====
/-
  The claims about the bf16 gather, from its run: nothing faults, the arguments stay, every counter ends
  at zero, and in exact arithmetic every device's result is `A @ B`.
-/
module

public import proofs.«01_k».proof.Defs
public import proofs.«01_k».proof.Proof.Gen.Kernel
public import proofs.«01_k».proof.Proof.Value

@[expose] public section

set_option maxRecDepth 16384

noncomputable section

namespace Cert.Gather

open Idealize.ShloMosaic Idealize.ShloMosaic.TcCoe Idealize.SL.Sem

/-- At any float values: the arguments end as they began and the counters at zero. -/
theorem ends {F : FTy → Type} [FloatOps F] (m : (ℓ : Loc Cert.KernelIdeal.nD Cert.KernelIdeal.τ Cert.KernelIdeal.sig) → Buf (Elt F) ℓ)
    {r : PUnit × MemSt Cert.KernelIdeal.nD Cert.KernelIdeal.τ Cert.KernelIdeal.sig (Elt F)} (h : Final m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) :=
  ⟨(h c 0).trans (end_arg0 m c), (h c 1).trans (end_arg1 m c)⟩

/-- At any float values: the run, read at the arguments and the counters. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run Cert.KernelIdeal.defs _ _).mono (fun _ h => ⟨ends m h.1, h.2⟩) (run_main m ρ)

/-- The two printings of the kernel give each label the same body; -/
theorem bodies : Cert.KernelIdeal.defs₀ (F := Bits) = Cert.Kernel.defs₀ (F := Bits) := by
  unfold Cert.KernelIdeal.defs₀ Cert.Kernel.defs₀
  refine congrArg Defs.onTc ?_
  funext l x
  rcases l with ⟨_ | n, h⟩
  · rfl
  · exact absurd h (by omega)
/-- and so the same table. -/
theorem tables : Cert.KernelIdeal.defs (F := Bits) = Cert.Kernel.defs (F := Bits) :=
  congrArg (Pipeline.defs Cert.KernelIdeal.pcfgs) bodies

/-- The kernel at the bit-exact floats: its text is the idealized one's, no operation having been rewritten. -/
theorem frame_kernel : Cert.quiescent_Kernel := fun m ρ _ => by
  rw [← tables]
  exact frame_any (F := Bits) m ρ

/-- The same text in exact arithmetic. -/
theorem frame_ideal : Cert.quiescent_KernelIdeal := fun m ρ _ => frame_any (F := Ideal) m ρ

/-- The reference: no semaphore exists on its machine. -/
theorem frame_reference : Cert.quiescent_ReferenceIdeal := fun m ρ _ =>
  (θ_run Cert.ReferenceIdeal.defs _ _).mono (fun r h => ⟨fun c => (h c).2, sem_eq_zero_of_no_sems (by decide) r.2⟩) (Refer.run m ρ)

/-- In exact arithmetic every device's result array ends as the reference's. -/
theorem same_value : Cert.algebraic_KernelIdeal_ReferenceIdeal := fun m ρ m' ρ' _ hin =>
  ⟨_, (θ_run Cert.KernelIdeal.defs _ _).mono
      (fun _ h c => ⟨((h.1 c 2).trans (end_out m c)).trans (product_eq m _ _ (fun c => (hin c).1) (fun c => (hin c).2) c), ends m h.1 c⟩)
      (run_main (F := Ideal) m ρ),
    (θ_run Cert.ReferenceIdeal.defs _ _).mono (fun _ h => h 0) (Refer.run m' ρ')⟩

end Cert.Gather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Gather.frame_kernel, Cert.Gather.frame_ideal, Cert.Gather.frame_reference, trivial, Cert.Gather.same_value⟩

end Cert.Proof

end
